-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 512]⟩ ⟨3, ![8, 4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x512 : Shape := ⟨3, ![1, 4096, 512]⟩
abbrev S512 : Shape := ⟨1, ![512]⟩
abbrev S512x512 : Shape := ⟨2, ![512, 512]⟩
abbrev S4x176x512 : Shape := ⟨3, ![4, 176, 512]⟩
abbrev S2x176x512 : Shape := ⟨3, ![2, 176, 512]⟩
abbrev S1x176x512 : Shape := ⟨3, ![1, 176, 512]⟩
abbrev S4x160x512 : Shape := ⟨3, ![4, 160, 512]⟩
abbrev S2x160x512 : Shape := ⟨3, ![2, 160, 512]⟩
abbrev S1x160x512 : Shape := ⟨3, ![1, 160, 512]⟩
abbrev S3x10 : Shape := ⟨2, ![3, 10]⟩
abbrev S_ : Shape := ⟨0, ![]⟩
abbrev S176x512 : Shape := ⟨2, ![176, 512]⟩
abbrev S1x1 : Shape := ⟨2, ![1, 1]⟩
abbrev S1x176x256 : Shape := ⟨3, ![1, 176, 256]⟩
abbrev S176x256 : Shape := ⟨2, ![176, 256]⟩
abbrev S160x512 : Shape := ⟨2, ![160, 512]⟩
abbrev S1x160x256 : Shape := ⟨3, ![1, 160, 256]⟩
abbrev S160x256 : Shape := ⟨2, ![160, 256]⟩
abbrev S176 : Shape := ⟨1, ![176]⟩
abbrev S176x1 : Shape := ⟨2, ![176, 1]⟩
abbrev S1x512 : Shape := ⟨2, ![1, 512]⟩
abbrev S160 : Shape := ⟨1, ![160]⟩
abbrev S160x1 : Shape := ⟨2, ![160, 1]⟩

abbrev nBuf : Space → Nat
  | .hbm => 3
  | .vmem => 21
  | .smem => 0
  | _ => 0

abbrev bufTy : (tb : Table) → Fin (tcTables nBuf tb) → BufTy
  | .hbm, ⟨0, _⟩ => ⟨S1x4096x512, .bf16⟩
  | .hbm, ⟨1, _⟩ => ⟨S512, .bf16⟩
  | .hbm, ⟨2, _⟩ => ⟨S512x512, .f32⟩
  | .local _ .vmem, ⟨0, _⟩ => ⟨S1x4096x512, .bf16⟩
  | .local _ .vmem, ⟨1, _⟩ => ⟨S512, .bf16⟩
  | .local _ .vmem, ⟨2, _⟩ => ⟨S512x512, .f32⟩
  | .local _ .vmem, ⟨3, _⟩ => ⟨S4x176x512, .bf16⟩
  | .local _ .vmem, ⟨4, _⟩ => ⟨S4x176x512, .bf16⟩
  | .local _ .vmem, ⟨5, _⟩ => ⟨S4x176x512, .bf16⟩
  | .local _ .vmem, ⟨6, _⟩ => ⟨S4x176x512, .bf16⟩
  | .local _ .vmem, ⟨7, _⟩ => ⟨S2x176x512, .bf16⟩
  | .local _ .vmem, ⟨8, _⟩ => ⟨S1x176x512, .bf16⟩
  | .local _ .vmem, ⟨9, _⟩ => ⟨S4x176x512, .bf16⟩
  | .local _ .vmem, ⟨10, _⟩ => ⟨S4x176x512, .bf16⟩
  | .local _ .vmem, ⟨11, _⟩ => ⟨S4x176x512, .bf16⟩
  | .local _ .vmem, ⟨12, _⟩ => ⟨S4x176x512, .bf16⟩
  | .local _ .vmem, ⟨13, _⟩ => ⟨S2x176x512, .bf16⟩
  | .local _ .vmem, ⟨14, _⟩ => ⟨S1x176x512, .bf16⟩
  | .local _ .vmem, ⟨15, _⟩ => ⟨S4x160x512, .bf16⟩
  | .local _ .vmem, ⟨16, _⟩ => ⟨S4x160x512, .bf16⟩
  | .local _ .vmem, ⟨17, _⟩ => ⟨S4x160x512, .bf16⟩
  | .local _ .vmem, ⟨18, _⟩ => ⟨S4x160x512, .bf16⟩
  | .local _ .vmem, ⟨19, _⟩ => ⟨S2x160x512, .bf16⟩
  | .local _ .vmem, ⟨20, _⟩ => ⟨S1x160x512, .bf16⟩
  | _, _ => ⟨S1x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c4_i32_10 : BitVec 32) (c2_i32 : BitVec 32) (c0_i32_11 : BitVec 32) : Fin 3 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c4_i32_10
  let v14 : BitVec 32 := Scalar.xori v13 c2_i32
  let c512_i32 : BitVec 32 := 512#32
  let v15 : BitVec 32 := Scalar.muli v14 c512_i32
  let v16 : BitVec 32 := Scalar.addi v15 c0_i32_11
  let v17 : Index := Scalar.indexCast v16
  let c0_12 : Index := 0#32
  ![0, v17.toNat, 0]
def k0_off1_at (r : Fin 8) : BitVec 32 × BitVec 32 × BitVec 32 :=
  if r.val < 4 then
    if r.val < 2 then
      if r.val < 1 then
        (4#32, 2#32, 0#32)
      else
        (1#32, 7#32, 176#32)
    else
      if r.val < 3 then
        (4#32, 3#32, 0#32)
      else
        (1#32, 4#32, 176#32)
  else
    if r.val < 6 then
      if r.val < 5 then
        (4#32, 1#32, 0#32)
      else
        (1#32, 3#32, 176#32)
    else
      if r.val < 7 then
        (4#32, 0#32, 0#32)
      else
        (1#32, 0#32, 176#32)
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v23 : BitVec 32 := Scalar.xori v2 c4_i32_15
  let c1_i32_22 : BitVec 32 := 1#32
  let v24 : BitVec 32 := Scalar.muli v23 c1_i32_22
  let v25 : BitVec 32 := Scalar.addi c0_i32_23 v24
  v25.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_28 : BitVec 32 := 4#32
  let v34 : BitVec 32 := Scalar.xori v2 c4_i32_28
  let c1_i32_35 : BitVec 32 := 1#32
  let v35 : BitVec 32 := Scalar.muli v34 c1_i32_35
  let v36 : BitVec 32 := Scalar.addi c0_i32_36 v35
  v36.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v55 : BitVec 32 := Scalar.xori v2 c1_i32_47
  let c1_i32_54 : BitVec 32 := 1#32
  let v56 : BitVec 32 := Scalar.muli v55 c1_i32_54
  let v57 : BitVec 32 := Scalar.addi c0_i32_55 v56
  v57.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_60 : BitVec 32 := 1#32
  let v66 : BitVec 32 := Scalar.xori v2 c1_i32_60
  let c1_i32_67 : BitVec 32 := 1#32
  let v67 : BitVec 32 := Scalar.muli v66 c1_i32_67
  let v68 : BitVec 32 := Scalar.addi c0_i32_68 v67
  v68.toNat
def k0_off2 (d0 : Dev nD) (c5_i32 : BitVec 32) : Fin 3 → Nat :=
  let c0_75 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_73 : BitVec 32 := 3#32
  let v77 : BitVec 32 := Scalar.xori v2 c3_i32_73
  let v78 : BitVec 32 := Scalar.xori v77 c5_i32
  let c512_i32_74 : BitVec 32 := 512#32
  let v79 : BitVec 32 := Scalar.muli v78 c512_i32_74
  let c352_i32 : BitVec 32 := 352#32
  let v80 : BitVec 32 := Scalar.addi v79 c352_i32
  let v81 : Index := Scalar.indexCast v80
  let c0_76 : Index := 0#32
  ![0, v81.toNat, 0]
def k0_off2_at (r : Fin 4) : BitVec 32 :=
  if r.val < 2 then
    if r.val < 1 then
      5#32
    else
      1#32
  else
    if r.val < 3 then
      4#32
    else
      0#32
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v87 : BitVec 32 := Scalar.xori v2 c3_i32_80
  let c1_i32_87 : BitVec 32 := 1#32
  let v88 : BitVec 32 := Scalar.muli v87 c1_i32_87
  let v89 : BitVec 32 := Scalar.addi c0_i32_88 v88
  v89.toNat
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_93 : BitVec 32 := 3#32
  let v98 : BitVec 32 := Scalar.xori v2 c3_i32_93
  let c1_i32_100 : BitVec 32 := 1#32
  let v99 : BitVec 32 := Scalar.muli v98 c1_i32_100
  let v100 : BitVec 32 := Scalar.addi c0_i32_101 v99
  v100.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v119 : BitVec 32 := Scalar.xori v2 c4_i32_114
  let c1_i32_121 : BitVec 32 := 1#32
  let v120 : BitVec 32 := Scalar.muli v119 c1_i32_121
  let v121 : BitVec 32 := Scalar.addi c0_i32_122 v120
  v121.toNat
def k0_dev11 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_136 : BitVec 32 := 1#32
  let v140 : BitVec 32 := Scalar.xori v2 c1_i32_136
  let c1_i32_143 : BitVec 32 := 1#32
  let v141 : BitVec 32 := Scalar.muli v140 c1_i32_143
  let v142 : BitVec 32 := Scalar.addi c0_i32_144 v141
  v142.toNat
def k0_dev12 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_158 : BitVec 32 := 3#32
  let v161 : BitVec 32 := Scalar.xori v2 c3_i32_158
  let c1_i32_165 : BitVec 32 := 1#32
  let v162 : BitVec 32 := Scalar.muli v161 c1_i32_165
  let v163 : BitVec 32 := Scalar.addi c0_i32_166 v162
  v163.toNat
def k0_dev13 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_179 : BitVec 32 := 4#32
  let v182 : BitVec 32 := Scalar.xori v2 c4_i32_179
  let c1_i32_186 : BitVec 32 := 1#32
  let v183 : BitVec 32 := Scalar.muli v182 c1_i32_186
  let v184 : BitVec 32 := Scalar.addi c0_i32_187 v183
  v184.toNat
def k0_dev14 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_201 : BitVec 32 := 1#32
  let v203 : BitVec 32 := Scalar.xori v2 c1_i32_201
  let c1_i32_208 : BitVec 32 := 1#32
  let v204 : BitVec 32 := Scalar.muli v203 c1_i32_208
  let v205 : BitVec 32 := Scalar.addi c0_i32_209 v204
  v205.toNat
def k0_dev15 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_223 : BitVec 32 := 3#32
  let v224 : BitVec 32 := Scalar.xori v2 c3_i32_223
  let c1_i32_230 : BitVec 32 := 1#32
  let v225 : BitVec 32 := Scalar.muli v224 c1_i32_230
  let v226 : BitVec 32 := Scalar.addi c0_i32_231 v225
  v226.toNat
def k0_dev16 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_245 : BitVec 32 := 4#32
  let v245 : BitVec 32 := Scalar.xori v2 c4_i32_245
  let c1_i32_252 : BitVec 32 := 1#32
  let v246 : BitVec 32 := Scalar.muli v245 c1_i32_252
  let v247 : BitVec 32 := Scalar.addi c0_i32_253 v246
  v247.toNat
def k0_dev17 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_267 : BitVec 32 := 1#32
  let v266 : BitVec 32 := Scalar.xori v2 c1_i32_267
  let c1_i32_274 : BitVec 32 := 1#32
  let v267 : BitVec 32 := Scalar.muli v266 c1_i32_274
  let v268 : BitVec 32 := Scalar.addi c0_i32_275 v267
  v268.toNat
def k0_dev18 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_289 : BitVec 32 := 3#32
  let v287 : BitVec 32 := Scalar.xori v2 c3_i32_289
  let c1_i32_296 : BitVec 32 := 1#32
  let v288 : BitVec 32 := Scalar.muli v287 c1_i32_296
  let v289 : BitVec 32 := Scalar.addi c0_i32_297 v288
  v289.toNat
def k0_off3 (d0 : Dev nD) (c2_i32_302 : BitVec 32) (c0_i32_304 : BitVec 32) : Fin 3 → Nat :=
  let c0_305 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v298 : BitVec 32 := Scalar.xori v2 c2_i32_302
  let c512_i32_303 : BitVec 32 := 512#32
  let v299 : BitVec 32 := Scalar.muli v298 c512_i32_303
  let v300 : BitVec 32 := Scalar.addi v299 c0_i32_304
  let v301 : Index := Scalar.indexCast v300
  let c0_306 : Index := 0#32
  ![0, v301.toNat, 0]
def k0_off3_at (r : Fin 8) : BitVec 32 × BitVec 32 :=
  if r.val < 4 then
    if r.val < 2 then
      if r.val < 1 then
        (2#32, 0#32)
      else
        (7#32, 176#32)
    else
      if r.val < 3 then
        (3#32, 0#32)
      else
        (4#32, 176#32)
  else
    if r.val < 6 then
      if r.val < 5 then
        (1#32, 0#32)
      else
        (3#32, 176#32)
    else
      if r.val < 7 then
        (0#32, 0#32)
      else
        (0#32, 176#32)
def k0_off4 (d0 : Dev nD) (c5_i32_318 : BitVec 32) : Fin 3 → Nat :=
  let c0_321 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v316 : BitVec 32 := Scalar.xori v2 c5_i32_318
  let c512_i32_319 : BitVec 32 := 512#32
  let v317 : BitVec 32 := Scalar.muli v316 c512_i32_319
  let c352_i32_320 : BitVec 32 := 352#32
  let v318 : BitVec 32 := Scalar.addi v317 c352_i32_320
  let v319 : Index := Scalar.indexCast v318
  let c0_322 : Index := 0#32
  ![0, v319.toNat, 0]
def k0_off4_at (r : Fin 4) : BitVec 32 :=
  if r.val < 2 then
    if r.val < 1 then
      5#32
    else
      1#32
  else
    if r.val < 3 then
      4#32
    else
      0#32
def k0_dev19 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_430 : BitVec 32 := 3#32
  let v428 : BitVec 32 := Scalar.xori v2 c3_i32_430
  let c1_i32_437 : BitVec 32 := 1#32
  let v429 : BitVec 32 := Scalar.muli v428 c1_i32_437
  let v430 : BitVec 32 := Scalar.addi c0_i32_438 v429
  v430.toNat
def k0_dev20 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_475 : BitVec 32 := 4#32
  let v461 : BitVec 32 := Scalar.xori v2 c4_i32_475
  let c1_i32_482 : BitVec 32 := 1#32
  let v462 : BitVec 32 := Scalar.muli v461 c1_i32_482
  let v463 : BitVec 32 := Scalar.addi c0_i32_483 v462
  v463.toNat
def k0_dev21 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_520 : BitVec 32 := 1#32
  let v494 : BitVec 32 := Scalar.xori v2 c1_i32_520
  let c1_i32_527 : BitVec 32 := 1#32
  let v495 : BitVec 32 := Scalar.muli v494 c1_i32_527
  let v496 : BitVec 32 := Scalar.addi c0_i32_528 v495
  v496.toNat
def k0_dev22 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_564 : BitVec 32 := 3#32
  let v527 : BitVec 32 := Scalar.xori v2 c3_i32_564
  let c1_i32_570 : BitVec 32 := 1#32
  let v528 : BitVec 32 := Scalar.muli v527 c1_i32_570
  let v529 : BitVec 32 := Scalar.addi c0_i32_571 v528
  v529.toNat
def k0_dev23 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_608 : BitVec 32 := 4#32
  let v560 : BitVec 32 := Scalar.xori v2 c4_i32_608
  let c1_i32_615 : BitVec 32 := 1#32
  let v561 : BitVec 32 := Scalar.muli v560 c1_i32_615
  let v562 : BitVec 32 := Scalar.addi c0_i32_616 v561
  v562.toNat
def k0_dev24 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_653 : BitVec 32 := 1#32
  let v593 : BitVec 32 := Scalar.xori v2 c1_i32_653
  let c1_i32_660 : BitVec 32 := 1#32
  let v594 : BitVec 32 := Scalar.muli v593 c1_i32_660
  let v595 : BitVec 32 := Scalar.addi c0_i32_661 v594
  v595.toNat
def k0_dev25 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_698 : BitVec 32 := 3#32
  let v626 : BitVec 32 := Scalar.xori v2 c3_i32_698
  let c1_i32_703 : BitVec 32 := 1#32
  let v627 : BitVec 32 := Scalar.muli v626 c1_i32_703
  let v628 : BitVec 32 := Scalar.addi c0_i32_704 v627
  v628.toNat
def k0_dev26 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_743 : BitVec 32 := 4#32
  let v657 : BitVec 32 := Scalar.xori v2 c4_i32_743
  let c1_i32_748 : BitVec 32 := 1#32
  let v658 : BitVec 32 := Scalar.muli v657 c1_i32_748
  let v659 : BitVec 32 := Scalar.addi c0_i32_749 v658
  v659.toNat
def k0_dev27 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_788 : BitVec 32 := 1#32
  let v688 : BitVec 32 := Scalar.xori v2 c1_i32_788
  let c1_i32_793 : BitVec 32 := 1#32
  let v689 : BitVec 32 := Scalar.muli v688 c1_i32_793
  let v690 : BitVec 32 := Scalar.addi c0_i32_794 v689
  v690.toNat
def k0_dev28 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_859 : BitVec 32 := 1#32
  let v736 : BitVec 32 := Scalar.xori v2 c1_i32_859
  let c1_i32_866 : BitVec 32 := 1#32
  let v737 : BitVec 32 := Scalar.muli v736 c1_i32_866
  let v738 : BitVec 32 := Scalar.addi c0_i32_867 v737
  v738.toNat
def k0_dev29 (d0 : Dev nD) : Nat :=
  let c0_i32_938 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_930 : BitVec 32 := 3#32
  let v786 : BitVec 32 := Scalar.xori v2 c3_i32_930
  let c1_i32_937 : BitVec 32 := 1#32
  let v787 : BitVec 32 := Scalar.muli v786 c1_i32_937
  let v788 : BitVec 32 := Scalar.addi c0_i32_938 v787
  v788.toNat
def k0_dev30 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1001 : BitVec 32 := 4#32
  let v836 : BitVec 32 := Scalar.xori v2 c4_i32_1001
  let c1_i32_1008 : BitVec 32 := 1#32
  let v837 : BitVec 32 := Scalar.muli v836 c1_i32_1008
  let v838 : BitVec 32 := Scalar.addi c0_i32_1009 v837
  v838.toNat
def k0_dev31 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1049 : BitVec 32 := 1#32
  let v872 : BitVec 32 := Scalar.xori v2 c1_i32_1049
  let c1_i32_1055 : BitVec 32 := 1#32
  let v873 : BitVec 32 := Scalar.muli v872 c1_i32_1055
  let v874 : BitVec 32 := Scalar.addi c0_i32_1056 v873
  v874.toNat
def k0_dev32 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1096 : BitVec 32 := 3#32
  let v908 : BitVec 32 := Scalar.xori v2 c3_i32_1096
  let c1_i32_1103 : BitVec 32 := 1#32
  let v909 : BitVec 32 := Scalar.muli v908 c1_i32_1103
  let v910 : BitVec 32 := Scalar.addi c0_i32_1104 v909
  v910.toNat
def k0_dev33 (d0 : Dev nD) : Nat :=
  let c0_i32_1152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1144 : BitVec 32 := 4#32
  let v944 : BitVec 32 := Scalar.xori v2 c4_i32_1144
  let c1_i32_1151 : BitVec 32 := 1#32
  let v945 : BitVec 32 := Scalar.muli v944 c1_i32_1151
  let v946 : BitVec 32 := Scalar.addi c0_i32_1152 v945
  v946.toNat
abbrev stage0_0 : Fin 1 → Memref sig .tc .vmem S1x4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x4096x512 : Shape := ⟨3, ![8, 4096, 512]⟩
abbrev S512 : Shape := ⟨1, ![512]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S512, .bf16⟩
  | .hbm, ⟨2, _⟩ => ⟨S8x4096x512, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S512, .f32⟩
  | .hbm, ⟨19, _⟩ => ⟨S1x512, .f32⟩
  | .hbm, ⟨20, _⟩ => ⟨S4096x512, .f32⟩
  | .hbm, ⟨21, _⟩ => ⟨S4096x512, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Blocks.lean ====
/-
The kernel's body as a sequence of short programs ("blocks"), each generic in the stripe part it works on.

A device's stripe of 512 rows is cut into three parts of 176, 176 and 160 rows; the kernel runs one recursive-halving
exchange per part, interleaved. A `Part` bundles the buffers of one exchange; a block is one step of it (stage a row
of the input, start a message, wait for one, add two buffers, ...). `prog` lists the blocks in program order and
`body_eq` says the generated body is that list.
-/
module

public import proofs.«01_k».proof.Proof.Gen.KernelIdeal
public import proofs.«01_k».proof.Proof.Gen.KernelIdeal.Skeleton
public import Idealize.ShloMosaic.Lib.ShapeFacts
public import Idealize.ShloMosaic.Lib.Tactic
public import Idealize.ShloMosaic.Rules.Simple

@[expose] public section

noncomputable section

namespace Cert.KProof

open Cert.KernelIdeal Cert.KernelIdeal.Gen
open Idealize.ShloMosaic Idealize.SL.Sem

/-! ## Shapes and rectangles -/

/-- `n` rows of an exchange buffer, each an `h × 512` matrix. -/
abbrev A3 (n h : ℕ) : Shape := ⟨3, ![n, h, 512]⟩
/-- One row's `w` columns, with and without the leading unit axis. -/
abbrev P3 (h w : ℕ) : Shape := ⟨3, ![1, h, w]⟩
abbrev P2 (h w : ℕ) : Shape := ⟨2, ![h, w]⟩

/-- Which columns of a row: all, the left 256, or the right 256. -/
inductive Pc | full | lo | hi

/-- The first column of a piece. -/
def Pc.off : Pc → ℕ | .full => 0 | .lo => 0 | .hi => 256
/-- The number of columns of a piece. -/
def Pc.w : Pc → ℕ | .full => 512 | .lo => 256 | .hi => 256

theorem Pc.bound (p : Pc) : p.off + p.w ≤ 512 := by cases p <;> decide
theorem Pc.w_pos (p : Pc) : 0 < p.w := by cases p <;> decide

theorem inb_piece {n h : ℕ} (j : Fin n) (p : Pc) :
    ∀ a, (![j.val, 0, p.off] : Fin 3 → ℕ) a + (![1, h, p.w] : Fin 3 → ℕ) a ≤ (A3 n h).size a := by
  intro a; fin_cases a
  · exact j.isLt
  · exact (Nat.zero_add h).le
  · exact p.bound

/-- Row `j`'s piece `p` of an exchange buffer. -/
abbrev pr {n : ℕ} (h : ℕ) (j : Fin n) (p : Pc) : Rect (A3 n h) := Rect.unit (s := A3 n h) ![j.val, 0, p.off] ![1, h, p.w] (inb_piece j p)

theorem packed_unit {n h : ℕ} (he : 2 ∣ h) (o w : Fin 3 → ℕ) (w1 : w 1 = h) (o1 : o 1 = 0) (hi) :
    (Rect.unit (s := A3 n h) o w hi).PackedRows (EltTy.packing .bf16) := by
  rw [show EltTy.packing .bf16 = 2 by decide]
  have hr (h2) : (A3 n h).rowAx h2 = (1 : Fin 3) := rfl
  refine .inr ⟨show 2 ≤ 3 by decide, rfl, .inl ⟨?_, ?_⟩⟩
  · show 2 ∣ o _; rw [hr, o1]; exact Dvd.intro 0 rfl
  · show 2 ∣ w _; rw [hr, w1]; exact he

theorem packed_piece {n h : ℕ} (he : 2 ∣ h) (j : Fin n) (p : Pc) : (pr h j p).PackedRows (EltTy.packing .bf16) :=
  packed_unit he _ _ rfl rfl _

/-! ## A part's buffers -/

/-- The buffers of one part's exchange: the staged rows to send, the first landing buffer, the rows kept, the
    accumulator, and the second and third landing buffers. -/
structure Part where
  h : ℕ
  pos : 0 < h
  ev : 2 ∣ h
  S1 : Memref sig .tc .vmem (A3 4 h) .bf16
  R1 : Memref sig .tc .vmem (A3 4 h) .bf16
  XK : Memref sig .tc .vmem (A3 4 h) .bf16
  AC : Memref sig .tc .vmem (A3 4 h) .bf16
  R2 : Memref sig .tc .vmem (A3 2 h) .bf16
  R3 : Memref sig .tc .vmem (A3 1 h) .bf16
  wS1 : S1.IsWhole
  wR1 : R1.IsWhole
  wXK : XK.IsWhole
  wAC : AC.IsWhole
  wR2 : R2.IsWhole
  wR3 : R3.IsWhole
  sq : ∀ p : Pc, (P3 h p.w).Squeezes (P2 h p.w)
  red : (P2 h 512).Reduces [1] ⟨1, ![h]⟩
  col : (⟨1, ![h]⟩ : Shape).ShapeCasts ⟨2, ![h, 1]⟩
  bcol : (⟨2, ![h, 1]⟩ : Shape).Broadcasts (P2 h 512)
  brow : S1x512.Broadcasts (P2 h 512)

/-- The three parts. -/
def part : Fin 3 → Part
  | 0 => { h := 176, pos := by decide, ev := by decide, S1 := Memref.whole cc0_scratch0, R1 := Memref.whole cc0_scratch1, XK := Memref.whole cc0_scratch2, AC := Memref.whole cc0_scratch3, R2 := Memref.whole cc0_scratch4, R3 := Memref.whole cc0_scratch5, wS1 := Memref.isWhole_whole _, wR1 := Memref.isWhole_whole _, wXK := Memref.isWhole_whole _, wAC := Memref.isWhole_whole _, wR2 := Memref.isWhole_whole _, wR3 := Memref.isWhole_whole _, sq := fun p => by cases p <;> decide, red := by decide, col := by decide, bcol := by decide, brow := by decide }
  | 1 => { h := 176, pos := by decide, ev := by decide, S1 := Memref.whole cc0_scratch6, R1 := Memref.whole cc0_scratch7, XK := Memref.whole cc0_scratch8, AC := Memref.whole cc0_scratch9, R2 := Memref.whole cc0_scratch10, R3 := Memref.whole cc0_scratch11, wS1 := Memref.isWhole_whole _, wR1 := Memref.isWhole_whole _, wXK := Memref.isWhole_whole _, wAC := Memref.isWhole_whole _, wR2 := Memref.isWhole_whole _, wR3 := Memref.isWhole_whole _, sq := fun p => by cases p <;> decide, red := by decide, col := by decide, bcol := by decide, brow := by decide }
  | 2 => { h := 160, pos := by decide, ev := by decide, S1 := Memref.whole cc0_scratch12, R1 := Memref.whole cc0_scratch13, XK := Memref.whole cc0_scratch14, AC := Memref.whole cc0_scratch15, R2 := Memref.whole cc0_scratch16, R3 := Memref.whole cc0_scratch17, wS1 := Memref.isWhole_whole _, wR1 := Memref.isWhole_whole _, wXK := Memref.isWhole_whole _, wAC := Memref.isWhole_whole _, wR2 := Memref.isWhole_whole _, wR3 := Memref.isWhole_whole _, sq := fun p => by cases p <;> decide, red := by decide, col := by decide, bcol := by decide, brow := by decide }

/-- One end of a message: a buffer and the row of it the message reads or writes. -/
structure Side (h : ℕ) where
  n : ℕ
  M : Memref sig .tc .vmem (A3 n h) .bf16
  W : M.IsWhole
  j : Fin n

/-- The columns message `i` carries. -/
def mp : Fin 10 → Pc := ![.lo, .hi, .full, .full, .full, .lo, .hi, .full, .lo, .hi]
/-- Where message `i` is read from. -/
def Part.src (P : Part) : Fin 10 → Side P.h
  | 0 => ⟨4, P.S1, P.wS1, 3⟩ | 1 => ⟨4, P.S1, P.wS1, 3⟩ | 2 => ⟨4, P.S1, P.wS1, 2⟩ | 3 => ⟨4, P.S1, P.wS1, 1⟩ | 4 => ⟨4, P.S1, P.wS1, 0⟩
  | 5 => ⟨4, P.AC, P.wAC, 3⟩ | 6 => ⟨4, P.AC, P.wAC, 3⟩ | 7 => ⟨4, P.AC, P.wAC, 2⟩ | 8 => ⟨4, P.AC, P.wAC, 1⟩ | 9 => ⟨4, P.AC, P.wAC, 1⟩
/-- Where message `i` lands on the receiver. -/
def Part.dst (P : Part) : Fin 10 → Side P.h
  | 0 => ⟨4, P.R1, P.wR1, 3⟩ | 1 => ⟨4, P.R1, P.wR1, 3⟩ | 2 => ⟨4, P.R1, P.wR1, 2⟩ | 3 => ⟨4, P.R1, P.wR1, 1⟩ | 4 => ⟨4, P.R1, P.wR1, 0⟩
  | 5 => ⟨2, P.R2, P.wR2, 1⟩ | 6 => ⟨2, P.R2, P.wR2, 1⟩ | 7 => ⟨2, P.R2, P.wR2, 0⟩ | 8 => ⟨1, P.R3, P.wR3, 0⟩ | 9 => ⟨1, P.R3, P.wR3, 0⟩

/-- A side's piece, and the same piece without its unit axis. -/
abbrev Side.pc {h : ℕ} (S : Side h) (p : Pc) : Memref sig .tc .vmem (P3 h p.w) .bf16 := S.M.slice (pr h S.j p) (fun _ => rfl)
abbrev Side.sq {h : ℕ} (S : Side h) (p : Pc) (hs : (P3 h p.w).Squeezes (P2 h p.w)) : Memref sig .tc .vmem (P2 h p.w) .bf16 := (S.pc p).squeeze (P2 h p.w) hs

theorem Side.pc_words {h : ℕ} (he : 2 ∣ h) (S : Side h) (p : Pc) : (S.pc p).view.WordExact := S.W.wordExact_slice rfl _ (packed_piece he S.j p).wholeWords
theorem Side.sq_words {h : ℕ} (he : 2 ∣ h) (S : Side h) (p : Pc) (hs : (P3 h p.w).Squeezes (P2 h p.w)) : (S.sq p hs).view.WordExact :=
  (S.pc_words he p).reshape _ _

/-! ## Semaphores -/

theorem inb_sem (k : Fin 3) (i : Fin 10) : ∀ a, (![k.val, i.val] : Fin 2 → ℕ) a + S1x1.size a ≤ S3x10.size a := by
  intro a; fin_cases a
  · exact k.isLt
  · exact i.isLt

/-- The semaphore of part `k`'s message `i` in an array of them. -/
abbrev semAt (A : DmaSems sig S3x10) (k : Fin 3) (i : Fin 10) : DmaSem sig :=
  ((A.slice (Rect.unit (s := S3x10) ![k.val, i.val] S1x1.size (inb_sem k i))).squeeze S_ squeezes_S1x1_S_).sem

abbrev sS (k : Fin 3) (i : Fin 10) : DmaSem sig := semAt cc0_scratch18 k i
abbrev rS (k : Fin 3) (i : Fin 10) : DmaSem sig := semAt cc0_scratch19 k i
abbrev barS : Sem sig := (SemArray.scalar (sig.barrier 0 rfl) : Sems sig S_).sem

/-! ## Blocks -/

variable {F : FTy → Type} [FloatOps F]

abbrev PG (F : FTy → Type) : Type 1 := Prog (TpuEff nD τ sig (Elt F) Λ₀ .tc) PUnit

abbrev xM : Memref sig .tc .vmem S1x4096x512 .bf16 := Memref.whole cc0_stg0_0
abbrev gM : Memref sig .tc .vmem S512 .bf16 := Memref.whole cc0_stg1_0
abbrev oM : Memref sig .tc .vmem S512x512 .f32 := Memref.whole cc0_stg2_0

theorem P3_pos {h : ℕ} (hh : 0 < h) (p : Pc) : 0 < (P3 h p.w).numel := by
  rw [Shape.numel_rank3]; exact Nat.mul_pos (Nat.mul_pos Nat.one_pos hh) p.w_pos
theorem P3_P2 (h w : ℕ) : (P3 h w).ShapeCasts (P2 h w) := by simp [Shape.ShapeCasts, Shape.numel_rank3, Shape.numel_rank2]
theorem P2_P3 (h w : ℕ) : (P2 h w).ShapeCasts (P3 h w) := by simp [Shape.ShapeCasts, Shape.numel_rank3, Shape.numel_rank2]

/-- A piece read from a buffer, -/
abbrev ldP {α : Type} (P : Part) {n : ℕ} (M : Memref sig .tc .vmem (A3 n P.h) .bf16) (j : Fin n) (p : Pc)
    (k : Vec F (P3 P.h p.w) .bf16 → Prog (TpuEff nD τ sig (Elt F) Λ₀ .tc) α) : Prog (TpuEff nD τ sig (Elt F) Λ₀ .tc) α :=
  .op (.load M (pr P.h j p).toLoadRect (View.loadsAt_vmem (P3_pos P.pos p))) k
/-- and written to one. -/
abbrev stP {α : Type} (P : Part) {n : ℕ} (M : Memref sig .tc .vmem (A3 n P.h) .bf16) (W : M.IsWhole) (j : Fin n) (p : Pc) (v : Vec F (P3 P.h p.w) .bf16)
    (k : PUnit → Prog (TpuEff nD τ sig (Elt F) Λ₀ .tc) α) : Prog (TpuEff nD τ sig (Elt F) Λ₀ .tc) α :=
  .op (.store M (pr P.h j p) v Finset.univ (View.stores_vmem (P3_pos P.pos p) (W.storeExact_slice rfl _ (packed_piece P.ev j p)) (fun _ => rfl)) (.inl rfl)) k

/-- Copy the part's rows of one stripe of the input to row `j` of a buffer. -/
def stage (P : Part) (off : Fin 3 → ℕ) (hin : ∀ a, off a + (P3 P.h 512).size a ≤ S1x4096x512.size a)
    (M : Memref sig .tc .vmem (A3 4 P.h) .bf16) (W : M.IsWhole) (j : Fin 4) : PG F :=
  .op (.load xM (Rect.unit (s := S1x4096x512) off (P3 P.h 512).size hin).toLoadRect (View.loadsAt_vmem (P3_pos P.pos .full))) fun v =>
  ldP P M j .full fun _ =>
  stP P M W j .full (shapeCast (P3 P.h 512) (shapeCast (P2 P.h 512) (v : Vec F (P3 P.h 512) .bf16) (P3_P2 _ _)) (P2_P3 _ _)) .ret

/-- Start message `i` to device `d`. -/
def send (k : Fin 3) (i : Fin 10) (d : Dev nD) : PG F :=
  .op (.enqueueDma (((part k).src i).sq (mp i) ((part k).sq (mp i))) (.remote (Dev.tc d) (((part k).dst i).sq (mp i) ((part k).sq (mp i))) (.dma (sS k i))) (.dma (rS k i))
    (Side.sq_words (part k).ev _ _ ((part k).sq (mp i))) (Side.sq_words (part k).ev _ _ ((part k).sq (mp i))) ⟨⟨rfl, Or.inl rfl⟩, trivial⟩) .ret
/-- Start message 7 (its two ends keep their unit axis). -/
def send7 (k : Fin 3) (d : Dev nD) : PG F :=
  .op (.enqueueDma (((part k).src 7).pc .full) (.remote (Dev.tc d) (((part k).dst 7).pc .full) (.dma (sS k 7))) (.dma (rS k 7))
    (Side.pc_words (part k).ev _ _) (Side.pc_words (part k).ev _ _) ⟨⟨rfl, Or.inl rfl⟩, trivial⟩) .ret

/-- Wait until message `i` has left, then until the neighbour's has landed. -/
def waits (k : Fin 3) (i : Fin 10) : PG F :=
  .op (.waitDma2 (sS k i) (((part k).dst i).sq (mp i) ((part k).sq (mp i))) (((part k).src i).sq (mp i) ((part k).sq (mp i))) (Side.sq_words (part k).ev _ _ ((part k).sq (mp i))) (Side.sq_words (part k).ev _ _ ((part k).sq (mp i)))) fun _ =>
  .op (.waitDma2 (rS k i) (((part k).src i).sq (mp i) ((part k).sq (mp i))) (((part k).dst i).sq (mp i) ((part k).sq (mp i))) (Side.sq_words (part k).ev _ _ ((part k).sq (mp i))) (Side.sq_words (part k).ev _ _ ((part k).sq (mp i)))) .ret
def waits7 (k : Fin 3) : PG F :=
  .op (.waitDma2 (sS k 7) (((part k).dst 7).pc .full) (((part k).src 7).pc .full) (Side.pc_words (part k).ev _ _) (Side.pc_words (part k).ev _ _)) fun _ =>
  .op (.waitDma2 (rS k 7) (((part k).src 7).pc .full) (((part k).dst 7).pc .full) (Side.pc_words (part k).ev _ _) (Side.pc_words (part k).ev _ _)) .ret

/-- A piece as a matrix, and back. -/
abbrev toMat {h w : ℕ} (v : Vec F (P3 h w) .bf16) : FVec F (P2 h w) .bf16 := shapeCast (P2 h w) v (P3_P2 _ _)
abbrev ofMat {h w : ℕ} (v : FVec F (P2 h w) .bf16) : Vec F (P3 h w) .bf16 := shapeCast (P3 h w) v (P2_P3 _ _)

/-- Accumulator piece := landed piece + kept piece. -/
def add2 (P : Part) (j : Fin 4) (p : Pc) : PG F :=
  ldP P P.R1 j p fun a => ldP P P.XK j p fun b => ldP P P.AC j p fun _ =>
  stP P P.AC P.wAC j p (ofMat (addf (toMat a) (toMat b))) .ret
/-- Accumulator row 1's piece := first landed + kept + second landed. -/
def add3 (P : Part) (p : Pc) : PG F :=
  ldP P P.R1 1 p fun a => ldP P P.XK 1 p fun b => ldP P P.R2 1 p fun c => ldP P P.AC 1 p fun _ =>
  stP P P.AC P.wAC 1 p (ofMat (addf (addf (toMat a) (toMat b)) (toMat c))) .ret
/-- Accumulator row 0 += second landing buffer's row 0. -/
def addAcc (P : Part) : PG F :=
  ldP P P.AC 0 .full fun a => ldP P P.R2 0 .full fun b => ldP P P.AC 0 .full fun _ =>
  stP P P.AC P.wAC 0 .full (ofMat (addf (toMat a) (toMat b))) .ret

/-- The barrier: one unit to each of three neighbours, then wait for three. -/
def barrier (d₁ d₂ d₃ : Dev nD) : PG F :=
  .op (.semSignal (d₁, .tc) barS (1#32).toInt) fun _ => .op (.semSignal (d₂, .tc) barS (1#32).toInt) fun _ =>
  .op (.semSignal (d₃, .tc) barS (1#32).toInt) fun _ => .op (.semWait barS (3#32).toInt) .ret

/-- The part's rows of the result: `y / sqrt (mean (y²) + eps) * gamma` with `y` the sum of the last two pieces. -/
def outRows (P : Part) (a b : Vec F (P3 P.h 512) .bf16) (g : Vec F S512 .bf16) : FVec F (P2 P.h 512) .f32 :=
  let y : FVec F (P2 P.h 512) .f32 := addf (extf .f32 (toMat a) bitsLt_bf16_f32) (extf .f32 (toMat b) bitsLt_bf16_f32)
  let ss : FVec F ⟨1, ![P.h]⟩ .f32 := multiReduction .add [1] ⟨1, ![P.h]⟩ (mulf y y) 0x00000000#32 P.red (.inl rfl) rfl
  let ms : FVec F ⟨2, ![P.h, 1]⟩ .f32 := divf (shapeCast ⟨2, ![P.h, 1]⟩ ss P.col) (broadcast ⟨2, ![P.h, 1]⟩ (Scalar.ofBits .f32 0x44000000#32))
  let r : FVec F ⟨2, ![P.h, 1]⟩ .f32 := sqrt (addf ms (broadcast ⟨2, ![P.h, 1]⟩ (Scalar.ofBits .f32 0x358637BD#32)))
  let gr : FVec F S1x512 .bf16 := shapeCast S1x512 (shapeCast S512 g shapeCasts_S512_S512 : FVec F S512 .bf16) shapeCasts_S512_S1x512
  mulf (divf y (broadcastTo (P2 P.h 512) r P.bcol)) (broadcastTo (P2 P.h 512) (extf .f32 gr bitsLt_bf16_f32) P.brow)

theorem P2_pos {h : ℕ} (hh : 0 < h) : 0 < (P2 h 512).numel := by
  rw [Shape.numel_rank2]; exact Nat.mul_pos hh (show 0 < 512 by decide)

/-- The last step of a part: normalise the sum of the accumulator's row 0 and the third landing buffer, and store it as
    the part's rows of the result. -/
def finish (P : Part) (off : ℕ) (hin : ∀ a, (![off, 0] : Fin 2 → ℕ) a + (P2 P.h 512).size a ≤ S512x512.size a) : PG F :=
  ldP P P.AC 0 .full fun a => ldP P P.R3 0 .full fun b =>
  .op (.load gM (Rect.unit (s := S512) ![0] S512.size inb_S512_S512_0).toLoadRect (View.loadsAt_vmem h_S512)) fun g =>
  .op (.load oM (Rect.unit (s := S512x512) ![off, 0] (P2 P.h 512).size hin).toLoadRect (View.loadsAt_vmem (P2_pos P.pos))) fun _ =>
  .op (.store oM (Rect.unit (s := S512x512) ![off, 0] (P2 P.h 512).size hin) (outRows P a b g) Finset.univ (View.stores_vmem_bits_univ (P2_pos P.pos) rfl) (.inl rfl)) .ret

/-- The body of device `d`, block by block. -/
def prog (d : Dev nD) : PG F := do
  barrier ⟨k0_dev1 d, k0_dev1_lt d⟩ ⟨k0_dev2 d, k0_dev2_lt d⟩ ⟨k0_dev3 d, k0_dev3_lt d⟩
  stage (part 0) (k0_off1 d 4#32 2#32 0#32) (k0_off1_inb d 0) (part 0).S1 (part 0).wS1 3
  send 0 0 ⟨k0_dev4 d, k0_dev4_lt d⟩
  send 0 1 ⟨k0_dev5 d, k0_dev5_lt d⟩
  stage (part 1) (k0_off1 d 1#32 7#32 176#32) (k0_off1_inb d 1) (part 1).S1 (part 1).wS1 3
  send 1 0 ⟨k0_dev6 d, k0_dev6_lt d⟩
  send 1 1 ⟨k0_dev7 d, k0_dev7_lt d⟩
  stage (part 2) (k0_off2 d 5#32) (k0_off2_inb d 0) (part 2).S1 (part 2).wS1 3
  send 2 0 ⟨k0_dev8 d, k0_dev8_lt d⟩
  send 2 1 ⟨k0_dev9 d, k0_dev9_lt d⟩
  stage (part 0) (k0_off1 d 4#32 3#32 0#32) (k0_off1_inb d 2) (part 0).S1 (part 0).wS1 2
  send 0 2 ⟨k0_dev10 d, k0_dev10_lt d⟩
  stage (part 1) (k0_off1 d 1#32 4#32 176#32) (k0_off1_inb d 3) (part 1).S1 (part 1).wS1 2
  send 1 2 ⟨k0_dev11 d, k0_dev11_lt d⟩
  stage (part 2) (k0_off2 d 1#32) (k0_off2_inb d 1) (part 2).S1 (part 2).wS1 2
  send 2 2 ⟨k0_dev12 d, k0_dev12_lt d⟩
  stage (part 0) (k0_off1 d 4#32 1#32 0#32) (k0_off1_inb d 4) (part 0).S1 (part 0).wS1 1
  send 0 3 ⟨k0_dev13 d, k0_dev13_lt d⟩
  stage (part 1) (k0_off1 d 1#32 3#32 176#32) (k0_off1_inb d 5) (part 1).S1 (part 1).wS1 1
  send 1 3 ⟨k0_dev14 d, k0_dev14_lt d⟩
  stage (part 2) (k0_off2 d 4#32) (k0_off2_inb d 2) (part 2).S1 (part 2).wS1 1
  send 2 3 ⟨k0_dev15 d, k0_dev15_lt d⟩
  stage (part 0) (k0_off1 d 4#32 0#32 0#32) (k0_off1_inb d 6) (part 0).S1 (part 0).wS1 0
  send 0 4 ⟨k0_dev16 d, k0_dev16_lt d⟩
  stage (part 1) (k0_off1 d 1#32 0#32 176#32) (k0_off1_inb d 7) (part 1).S1 (part 1).wS1 0
  send 1 4 ⟨k0_dev17 d, k0_dev17_lt d⟩
  stage (part 2) (k0_off2 d 0#32) (k0_off2_inb d 3) (part 2).S1 (part 2).wS1 0
  send 2 4 ⟨k0_dev18 d, k0_dev18_lt d⟩
  stage (part 0) (k0_off3 d 2#32 0#32) (k0_off3_inb d 0) (part 0).XK (part 0).wXK 3
  stage (part 1) (k0_off3 d 7#32 176#32) (k0_off3_inb d 1) (part 1).XK (part 1).wXK 3
  stage (part 2) (k0_off4 d 5#32) (k0_off4_inb d 0) (part 2).XK (part 2).wXK 3
  stage (part 0) (k0_off3 d 3#32 0#32) (k0_off3_inb d 2) (part 0).XK (part 0).wXK 2
  stage (part 1) (k0_off3 d 4#32 176#32) (k0_off3_inb d 3) (part 1).XK (part 1).wXK 2
  stage (part 2) (k0_off4 d 1#32) (k0_off4_inb d 1) (part 2).XK (part 2).wXK 2
  stage (part 0) (k0_off3 d 1#32 0#32) (k0_off3_inb d 4) (part 0).XK (part 0).wXK 1
  stage (part 1) (k0_off3 d 3#32 176#32) (k0_off3_inb d 5) (part 1).XK (part 1).wXK 1
  stage (part 2) (k0_off4 d 4#32) (k0_off4_inb d 2) (part 2).XK (part 2).wXK 1
  stage (part 0) (k0_off3 d 0#32 0#32) (k0_off3_inb d 6) (part 0).XK (part 0).wXK 0
  stage (part 1) (k0_off3 d 0#32 176#32) (k0_off3_inb d 7) (part 1).XK (part 1).wXK 0
  stage (part 2) (k0_off4 d 0#32) (k0_off4_inb d 3) (part 2).XK (part 2).wXK 0
  waits 0 0
  add2 (part 0) 3 .lo
  send 0 5 ⟨k0_dev19 d, k0_dev19_lt d⟩
  waits 1 0
  add2 (part 1) 3 .lo
  send 1 5 ⟨k0_dev20 d, k0_dev20_lt d⟩
  waits 2 0
  add2 (part 2) 3 .lo
  send 2 5 ⟨k0_dev21 d, k0_dev21_lt d⟩
  waits 0 1
  add2 (part 0) 3 .hi
  send 0 6 ⟨k0_dev22 d, k0_dev22_lt d⟩
  waits 1 1
  add2 (part 1) 3 .hi
  send 1 6 ⟨k0_dev23 d, k0_dev23_lt d⟩
  waits 2 1
  add2 (part 2) 3 .hi
  send 2 6 ⟨k0_dev24 d, k0_dev24_lt d⟩
  waits 0 2
  add2 (part 0) 2 .full
  send7 0 ⟨k0_dev25 d, k0_dev25_lt d⟩
  waits 1 2
  add2 (part 1) 2 .full
  send7 1 ⟨k0_dev26 d, k0_dev26_lt d⟩
  waits 2 2
  add2 (part 2) 2 .full
  send7 2 ⟨k0_dev27 d, k0_dev27_lt d⟩
  waits 0 3
  waits 0 5
  add3 (part 0) .lo
  send 0 8 ⟨k0_dev28 d, k0_dev28_lt d⟩
  waits 1 3
  waits 1 5
  add3 (part 1) .lo
  send 1 8 ⟨k0_dev29 d, k0_dev29_lt d⟩
  waits 2 3
  waits 2 5
  add3 (part 2) .lo
  send 2 8 ⟨k0_dev30 d, k0_dev30_lt d⟩
  waits 0 6
  add3 (part 0) .hi
  send 0 9 ⟨k0_dev31 d, k0_dev31_lt d⟩
  waits 1 6
  add3 (part 1) .hi
  send 1 9 ⟨k0_dev32 d, k0_dev32_lt d⟩
  waits 2 6
  add3 (part 2) .hi
  send 2 9 ⟨k0_dev33 d, k0_dev33_lt d⟩
  waits 0 4
  add2 (part 0) 0 .full
  waits 1 4
  add2 (part 1) 0 .full
  waits 2 4
  add2 (part 2) 0 .full
  waits7 0
  addAcc (part 0)
  waits7 1
  addAcc (part 1)
  waits7 2
  addAcc (part 2)
  waits 0 8
  waits 0 9
  finish (part 0) 0 inb_S512x512_S176x512_0_0
  waits 1 8
  waits 1 9
  finish (part 1) 176 inb_S512x512_S176x512_176_0
  waits 2 8
  waits 2 9
  finish (part 2) 352 inb_S512x512_S160x512_352_0

set_option maxRecDepth 100000 in
set_option maxHeartbeats 4000000 in
/-- The generated body is the list of blocks. -/
theorem body_eq :
    cc0_body (F := F) xM (Memref.isWhole_whole _) gM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19
      = .op .deviceId fun d => prog d := by
  rw [cc0_body_eq_skeleton]
  rfl

end Cert.KProof
end
-- ==== Proof.Protocol.lean ====
/-
The protocol of the kernel: which device each message goes to, what it carries, and the schedule of the semaphores.

Devices are numbered 0 to 7; every message goes to the device whose number differs by one of the masks 1, 3, 4
(bitwise exclusive or). A part's exchange has three stages (messages 0 to 4, 5 to 7, 8 to 9), one mask each.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The device whose number differs from `c`'s by the mask `m`. -/
def nb (m : Fin 8) (c : Dev nD) : Dev nD := ⟨c.val ^^^ m.val, by revert c m; decide⟩
theorem nb_nb (m : Fin 8) (c : Dev nD) : nb m (nb m c) = c := by revert m c; decide

/-- A message: its part and its number there. -/
abbrev Msg : Type := Fin 3 × Fin 10

/-- The stage of a message: 0, 1 or 2. -/
def stg (i : Fin 10) : Fin 3 := ![0, 0, 0, 0, 0, 1, 1, 1, 2, 2] i
/-- The three directions' masks. -/
def bm : Fin 3 → Fin 8 := ![1, 3, 4]
/-- The direction of part `k` at stage `s`. -/
def dirS (k s : Fin 3) : Fin 3 := (![![2, 1, 0], ![0, 2, 1], ![1, 0, 2]] : Fin 3 → Fin 3 → Fin 3) k s
/-- The direction of a message. -/
def dir (x : Msg) : Fin 3 := dirS x.1 (stg x.2)
/-- The neighbour of `c` in part `k` at stage `s`. -/
def nbS (k s : Fin 3) (c : Dev nD) : Dev nD := nb (bm (dirS k s)) c
/-- The device message `x` of `c` goes to, which is also the one whose message `x` comes to `c`. -/
def peer (x : Msg) (c : Dev nD) : Dev nD := nb (bm (dir x)) c
theorem peer_peer (x : Msg) (c : Dev nD) : peer x (peer x c) = c := nb_nb _ c

/-! ## Contents -/

/-- One row of an exchange buffer of height `h`. -/
abbrev Row (F : FTy → Type) (h : ℕ) : Type := (P3 h 512).Idx → Elt F .bf16
/-- The staged input and the staged scale, as buffers. -/
abbrev XT (F : FTy → Type) : Type := (cc0_stg0_0 : Ref sig .tc).ty.Contents (Elt F)
abbrev GT (F : FTy → Type) : Type := (cc0_stg1_0 : Ref sig .tc).ty.Contents (Elt F)

/-- The first row of a stripe that part `k` works on. -/
def off (k : Fin 3) : ℕ := ![0, 176, 352] k
theorem off_inb (k : Fin 3) (q : Dev nD) : ∀ a, (![0, 512 * q.val + off k, 0] : Fin 3 → ℕ) a + (P3 (part k).h 512).size a ≤ S1x4096x512.size a := by
  intro a
  have hq : q.val ≤ 7 := Nat.le_of_lt_succ q.isLt
  have hk : off k + (part k).h ≤ 512 := by fin_cases k <;> decide
  fin_cases a
  · exact le_refl 1
  · show 512 * q.val + off k + (part k).h ≤ 4096; omega
  · exact le_refl 512

/-- Part `k`'s rows of stripe `q` of an input. -/
def rows (X : XT F) (k : Fin 3) (q : Dev nD) : Row F (part k).h :=
  fun i => X ((Rect.unit (s := S1x4096x512) ![0, 512 * q.val + off k, 0] (P3 (part k).h 512).size (off_inb k q)).emb i)

/-- Which stripe buffer row `j` of part `k` is about, relative to the device: the masks of the four rows. -/
def spn (k : Fin 3) (j : Fin 4) : Fin 8 := (![![0, 1, 3, 2], ![0, 3, 4, 7], ![0, 4, 1, 5]] : Fin 3 → Fin 4 → Fin 8) k j

/-- A piece of a row. -/
def pcIdx {h : ℕ} (p : Pc) (i : (P3 h p.w).Idx) : (P3 h 512).Idx :=
  fun a => match a with
  | 0 => (i 0 : Fin 1)
  | 1 => (i 1 : Fin h)
  | 2 => (⟨p.off + (i 2 : Fin p.w).val, Nat.lt_of_lt_of_le (Nat.add_lt_add_left (i 2 : Fin p.w).isLt p.off) p.bound⟩ : Fin 512)
def pcv {h : ℕ} (p : Pc) (v : Row F h) : (P3 h p.w).Idx → Elt F .bf16 := fun i => v (pcIdx p i)

/-- The sum of two rows, element by element. -/
def vadd {h : ℕ} (a b : Row F h) : Row F h := fun i => FloatOps.addf (a i) (b i)

section Contents
variable (x : Dev nD → XT F)

/-- What device `c` stages to send, -/
def S1C (k : Fin 3) (c : Dev nD) (j : Fin 4) : Row F (part k).h := rows (x c) k (nb (spn k j) (nbS k 0 c))
/-- what it keeps, -/
def XKC (k : Fin 3) (c : Dev nD) (j : Fin 4) : Row F (part k).h := rows (x c) k (nb (spn k j) c)
/-- what lands in the first landing buffer, -/
def R1C (k : Fin 3) (c : Dev nD) (j : Fin 4) : Row F (part k).h := S1C x k (nbS k 0 c) j
/-- the first sums, -/
def A1 (k : Fin 3) (c : Dev nD) (j : Fin 4) : Row F (part k).h := vadd (R1C x k c j) (XKC x k c j)
/-- what lands in the second landing buffer, -/
def R2C (k : Fin 3) (c : Dev nD) (j : Fin 2) : Row F (part k).h := A1 x k (nbS k 1 c) (![2, 3] j)
/-- the second sums (of rows 0 and 1), -/
def A2 (k : Fin 3) (c : Dev nD) (j : Fin 2) : Row F (part k).h := vadd (A1 x k c (![0, 1] j)) (R2C x k c j)
/-- and what lands in the third landing buffer. -/
def R3C (k : Fin 3) (c : Dev nD) : Row F (part k).h := A2 x k (nbS k 2 c) 1

/-- The row message `i` of part `k` is a piece of, at its sender `c`. -/
def srcC (k : Fin 3) (i : Fin 10) (c : Dev nD) : Row F (part k).h :=
  match i with
  | 0 => S1C x k c 3 | 1 => S1C x k c 3 | 2 => S1C x k c 2 | 3 => S1C x k c 1 | 4 => S1C x k c 0
  | 5 => A1 x k c 3 | 6 => A1 x k c 3 | 7 => A1 x k c 2 | 8 => A2 x k c 1 | 9 => A2 x k c 1

end Contents

/-! ## Cells -/

abbrev barCell (c : Dev nD) : GSem nD τ sig := ((c : Thread nD τ), .reg barS)
abbrev sndCell (c : Dev nD) (x : Msg) : GSem nD τ sig := ((c : Thread nD τ), .dma (sS x.1 x.2))
abbrev rcvCell (c : Dev nD) (x : Msg) : GSem nD τ sig := ((c : Thread nD τ), .dma (rS x.1 x.2))

/-- What a semaphore is for: the barrier, a message's departure, a message's arrival, or none of these. -/
inductive Kd | bar | snd (x : Msg) | rcv (x : Msg) | no
  deriving DecidableEq

/-- The message numbered `n`. -/
def msgAt (n : ℕ) (h : n < 30) : Msg := (⟨n / 10, by omega⟩, ⟨n % 10, Nat.mod_lt _ (by decide)⟩)

def kd : SemLoc sig → Kd
  | .reg s => if s = barS then .bar else .no
  | .dma s => if h : 3 ≤ s.val ∧ s.val < 33 then .snd (msgAt (s.val - 3) (by omega)) else if h : 33 ≤ s.val ∧ s.val < 63 then .rcv (msgAt (s.val - 33) (by omega)) else .no

theorem kd_bar : kd (.reg barS) = .bar := by decide
set_option maxRecDepth 10000 in
theorem kd_snd (x : Msg) : kd (.dma (sS x.1 x.2)) = .snd x := by revert x; decide
set_option maxRecDepth 10000 in
theorem kd_rcv (x : Msg) : kd (.dma (rS x.1 x.2)) = .rcv x := by revert x; decide

/-- The units a message moves. -/
def amt (x : Msg) : ℕ := RefSig.tileCredit (P3 (part x.1).h (mp x.2).w) .bf16
theorem amt_pc (x : Msg) (S : Side (part x.1).h) : (S.pc (mp x.2)).view.dmaCredit = amt x := rfl
theorem amt_sq (x : Msg) (S : Side (part x.1).h) (hs) : (S.sq (mp x.2) hs).view.dmaCredit = amt x := by
  unfold amt
  rw [show RefSig.tileCredit (P3 (part x.1).h (mp x.2).w) .bf16 = 1 * RefSig.tileCredit (P2 (part x.1).h (mp x.2).w) .bf16 from RefSig.tileCredit_cons 1 _ _, Nat.one_mul]
theorem amt_pos (x : Msg) : 0 < amt x := by
  rw [← amt_pc x ((part x.1).src x.2)]
  exact View.dmaCredit_pos _ (P3_pos (part x.1).pos _)

/-! ## The schedule -/

/-- Device `c` owns piece `p` of a buffer row, which reads `X`. -/
def reg (c : Dev nD) {h : ℕ} (S : Side h) (p : Pc) (X : (P3 h p.w).Idx → Elt F .bf16) : sProp 𝕄 :=
  owns (Ix := Unit) (Name := ℕ) (U := UU) (Lvl := ℕ) (c : Thread nD τ) (S.pc p) fullShare X
instance reg_storable (c : Dev nD) {h : ℕ} (S : Side h) (p : Pc) (X : (P3 h p.w).Idx → Elt F .bf16) : BI.Storable (upEmb : UEmb _ 𝕄) (reg c S p X) := by
  unfold reg; infer_instance

/-- Where message `x` lands on device `c`, holding anything. -/
def land (c : Dev nD) (x : Msg) : sProp 𝕄 := iprop(∃ X, reg c ((part x.1).dst x.2) (mp x.2) X)
instance land_storable (c : Dev nD) (x : Msg) : BI.Storable (upEmb : UEmb _ 𝕄) (land (F := F) c x) := by unfold land; infer_instance

/-- What the signal from direction `d` hands device `c`: where `c`'s messages in that direction land. -/
def barPay (c : Dev nD) (d : Fin 3) : sProp 𝕄 := bigSep (Finset.univ.filter fun x => dir x = d) fun x => land (nb (bm d) c) x
instance barPay_storable (c : Dev nD) (d : Fin 3) : BI.Storable (upEmb : UEmb _ 𝕄) (barPay (F := F) c d) := by unfold barPay; infer_instance

variable (x : Dev nD → XT F)

/-- Message `y` of device `c` at its source, -/
def sndPay (c : Dev nD) (y : Msg) : sProp 𝕄 := reg c ((part y.1).src y.2) (mp y.2) (pcv (mp y.2) (srcC x y.1 y.2 c))
/-- and the message `y` that comes to device `c`, landed. -/
def rcvPay (c : Dev nD) (y : Msg) : sProp 𝕄 := reg c ((part y.1).dst y.2) (mp y.2) (pcv (mp y.2) (srcC x y.1 y.2 (peer y c)))
instance sndPay_storable (c : Dev nD) (y : Msg) : BI.Storable (upEmb : UEmb _ 𝕄) (sndPay x c y) := by unfold sndPay; infer_instance
instance rcvPay_storable (c : Dev nD) (y : Msg) : BI.Storable (upEmb : UEmb _ 𝕄) (rcvPay x c y) := by unfold rcvPay; infer_instance

def dutiesK : Kd → Finset (Fin 3) | .bar => Finset.univ | .snd _ => {0} | .rcv _ => {0} | .no => ∅
def amountK : Kd → ℕ | .bar => 1 | .snd y => amt y | .rcv y => amt y | .no => 1
def payK (c : Dev nD) (d : Fin 3) : Kd → sProp 𝕄 | .bar => barPay c d | .snd y => sndPay x c y | .rcv y => rcvPay x c y | .no => iprop(emp)

/-- One round: the barrier cell has three duties of one unit, one per direction; a departure or arrival cell one duty
    of the message's units. -/
def Rd : Rounds.Schedule (GSem nD τ sig) (Fin 3) 𝕄 where
  duties g r := if r = 0 ∧ g.1.2 = .tc then dutiesK (kd g.2) else ∅
  unitless _ := False
  amount g _ _ := amountK (kd g.2)
  payload g _ d := payK x g.1.1 d (kd g.2)
  amount_pos g _ _ _ := by
    cases kd g.2 with
    | bar => exact Nat.one_pos
    | snd y => exact amt_pos y
    | rcv y => exact amt_pos y
    | no => exact Nat.one_pos

instance Rd_payload_storable (g : GSem nD τ sig) (r : ℕ) (d : Fin 3) : BI.Storable (upEmb : UEmb _ 𝕄) ((Rd x).payload g r d) := by
  show BI.Storable upEmb (payK x g.1.1 d (kd g.2))
  cases kd g.2 <;> (unfold payK; dsimp only; infer_instance)

section Sched
variable (c : Dev nD) (y : Msg)

theorem duties_bar : (Rd x).duties (barCell c) 0 = Finset.univ := by
  show (if (0 : ℕ) = 0 ∧ (Proc.tc : Proc τ) = .tc then dutiesK (kd (.reg barS)) else ∅) = _
  rw [if_pos ⟨rfl, rfl⟩, kd_bar]; rfl
theorem duties_snd : (Rd x).duties (sndCell c y) 0 = {0} := by
  show (if (0 : ℕ) = 0 ∧ (Proc.tc : Proc τ) = .tc then dutiesK (kd (.dma (sS y.1 y.2))) else ∅) = _
  rw [if_pos ⟨rfl, rfl⟩, kd_snd]; rfl
theorem duties_rcv : (Rd x).duties (rcvCell c y) 0 = {0} := by
  show (if (0 : ℕ) = 0 ∧ (Proc.tc : Proc τ) = .tc then dutiesK (kd (.dma (rS y.1 y.2))) else ∅) = _
  rw [if_pos ⟨rfl, rfl⟩, kd_rcv]; rfl
theorem duties_later (g : GSem nD τ sig) : ∀ r, 1 ≤ r → (Rd x).duties g r = ∅ :=
  fun r hr => if_neg fun h => by omega

theorem amount_bar (d : Fin 3) : (Rd x).amount (barCell c) 0 d = 1 := by
  show amountK (kd (.reg barS)) = 1; rw [kd_bar]; rfl
theorem amount_snd (d : Fin 3) : (Rd x).amount (sndCell c y) 0 d = amt y := by
  show amountK (kd (.dma (sS y.1 y.2))) = _; rw [kd_snd]; rfl
theorem amount_rcv (d : Fin 3) : (Rd x).amount (rcvCell c y) 0 d = amt y := by
  show amountK (kd (.dma (rS y.1 y.2))) = _; rw [kd_rcv]; rfl

theorem expect_bar : (Rd x).expect (barCell c) 0 = 3 := by
  unfold Schedule.expect Schedule.amountOf
  rw [duties_bar, Finset.sum_congr rfl fun d _ => amount_bar x c d]; rfl
theorem expect_snd : (Rd x).expect (sndCell c y) 0 = amt y := by
  unfold Schedule.expect Schedule.amountOf; rw [duties_snd, Finset.sum_singleton, amount_snd]
theorem expect_rcv : (Rd x).expect (rcvCell c y) 0 = amt y := by
  unfold Schedule.expect Schedule.amountOf; rw [duties_rcv, Finset.sum_singleton, amount_rcv]

theorem payload_bar (d : Fin 3) : (Rd x).payload (barCell c) 0 d = barPay c d := by
  show payK x c d (kd (.reg barS)) = _; rw [kd_bar]; rfl
theorem payload_snd (d : Fin 3) : (Rd x).payload (sndCell c y) 0 d = sndPay x c y := by
  show payK x c d (kd (.dma (sS y.1 y.2))) = _; rw [kd_snd]; rfl
theorem payload_rcv (d : Fin 3) : (Rd x).payload (rcvCell c y) 0 d = rcvPay x c y := by
  show payK x c d (kd (.dma (rS y.1 y.2))) = _; rw [kd_rcv]; rfl

/-- The landing places a device is handed at its barrier wait: those of all its messages. -/
theorem rest_bar : bigSep ((Rd x).duties (barCell c) 0 \ ∅) (fun d => (Rd x).payload (barCell c) 0 d)
    = bigSep Finset.univ fun y : Msg => land (F := F) (peer y c) y := by
  rw [Finset.sdiff_empty, duties_bar]
  simp only [payload_bar]
  have h : ∀ d : Fin 3, barPay (F := F) c d = bigSep (Finset.univ.filter fun y : Msg => dir y = d) fun y => land (peer y c) y := fun d =>
    bigSep_congr fun y hy => by rw [peer, (Finset.mem_filter.mp hy).2]
  simp only [h]
  have hU : (Finset.univ : Finset Msg) = Finset.univ.biUnion fun d : Fin 3 => Finset.univ.filter fun y : Msg => dir y = d := by
    ext y; simp
  conv_rhs => rw [hU]
  rw [bigSep_biUnion_eq]
  intro d _ d' _ hd
  exact Finset.disjoint_filter.mpr fun y _ h1 h2 => hd (h1.symm.trans h2)
theorem rest_snd : bigSep ((Rd x).duties (sndCell c y) 0 \ ∅) (fun d => (Rd x).payload (sndCell c y) 0 d) = sndPay x c y := by
  rw [Finset.sdiff_empty, duties_snd, bigSep_singleton, payload_snd]
theorem rest_rcv : bigSep ((Rd x).duties (rcvCell c y) 0 \ ∅) (fun d => (Rd x).payload (rcvCell c y) 0 d) = rcvPay x c y := by
  rw [Finset.sdiff_empty, duties_rcv, bigSep_singleton, payload_rcv]

end Sched

/-! ## What is owed, and the levels -/

/-- The messages in the order a device starts them. -/
def ord : List Msg :=
  [(0,0),(0,1),(1,0),(1,1),(2,0),(2,1),(0,2),(1,2),(2,2),(0,3),(1,3),(2,3),(0,4),(1,4),(2,4),
   (0,5),(1,5),(2,5),(0,6),(1,6),(2,6),(0,7),(1,7),(2,7),(0,8),(1,8),(2,8),(0,9),(1,9),(2,9)]

/-- What device `c` owes while the messages `l` are still to be started. -/
def owesL (c : Dev nD) : List Msg → CellTallies nD τ sig Unit
  | [] => 0
  | y :: l => owesL c l + tallyAt (rcvCell (peer y c) y) () (amt y)

/-- What device `c` owes at launch: every message, and one unit to the barrier of each of its three neighbours. -/
def O₀ (c : Dev nD) : CellTallies nD τ sig Unit :=
  owesL c ord + tallyAt (barCell (nb 4 c)) () 1 + tallyAt (barCell (nb 3 c)) () 1 + tallyAt (barCell (nb 1 c)) () 1

def L (g : GSem nD τ sig) : Finset Unit := if g.1.2 = .tc then {()} else ∅
def lvK : Kd → ℕ | .bar => 1 | .rcv y => 2 + (stg y.2).val | _ => 0
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

theorem owesL_pos {c : Dev nD} {l : List Msg} {g : GSem nD τ sig} {u : Unit} (h : 0 < owesL c l g u) :
    ∃ y ∈ l, g = rcvCell (peer y c) y := by
  induction l with
  | nil => exact absurd h (Nat.lt_irrefl 0)
  | cons y l ih =>
    have h' : 0 < owesL c l g u + tallyAt (rcvCell (peer y c) y) () (amt y) g u := h
    by_cases hg : g = rcvCell (peer y c) y
    · exact ⟨y, List.mem_cons_self, hg⟩
    · rw [tallyAt_apply, if_neg (fun h2 => hg h2.1), Nat.add_zero] at h'
      obtain ⟨z, hz, e⟩ := ih h'
      exact ⟨z, List.mem_cons_of_mem _ hz, e⟩

theorem O₀_pos {c : Dev nD} {g : GSem nD τ sig} {u : Unit} (h : 0 < O₀ c g u) :
    (∃ y, g = rcvCell (peer y c) y) ∨ ∃ d, g = barCell d := by
  have h' : 0 < owesL c ord g u + tallyAt (barCell (nb 4 c)) () 1 g u + tallyAt (barCell (nb 3 c)) () 1 g u + tallyAt (barCell (nb 1 c)) () 1 g u := h
  rw [tallyAt_apply, tallyAt_apply, tallyAt_apply] at h'
  by_contra hn
  rw [not_or] at hn
  have hb : ∀ d, ¬ (g = barCell d ∧ u = ()) := fun d e => hn.2 ⟨d, e.1⟩
  rw [if_neg (hb _), if_neg (hb _), if_neg (hb _)] at h'
  obtain ⟨y, _, e⟩ := owesL_pos (show 0 < owesL c ord g u from h')
  exact hn.1 ⟨y, e⟩

/-- A device that still owes the messages `l` may wait on a semaphore of a lower level. -/
theorem mayWait_L (c : Dev nD) (sm : SemLoc sig) (l : List Msg) (h : ∀ y ∈ l, lvK (kd sm) < 2 + (stg y.2).val) :
    (levAts L lv : sProp 𝕄) ⊢ MayWait (c : Thread nD τ) sm () (owesL c l) :=
  MayOwe.of_cut (L := L) (lev := lv) (lvK (kd sm)) (fun p hp => by rw [Finset.mem_singleton.mp hp, L_tc]; exact Finset.mem_singleton_self _)
    (fun g u hg => by obtain ⟨y, _, rfl⟩ := owesL_pos hg; rw [L_tc]; exact Finset.mem_singleton_self _)
    (fun p hp => by rw [Finset.mem_singleton.mp hp]; exact le_refl _)
    (fun g u hg => by
      obtain ⟨y, hy, rfl⟩ := owesL_pos hg
      show _ < lvK (kd (.dma (rS y.1 y.2)))
      rw [kd_rcv]; exact h y hy)

/-- Waiting for a staging copy is allowed at launch and at the end. -/
theorem mayWait_stage (c : Dev nD) (q : DmaSem sig) (hq : kd (.dma q) = .no) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨y, rfl⟩ | ⟨d, rfl⟩ <;> exact Finset.mem_singleton_self _)
      (fun p hp => by rw [Finset.mem_singleton.mp hp]; show lvK (kd (.dma q)) ≤ 0; rw [hq]; exact le_refl 0)
      (fun g u hg => by
        rcases O₀_pos hg with ⟨y, rfl⟩ | ⟨d, rfl⟩
        · show 0 < lvK (kd (.dma (rS y.1 y.2))); rw [kd_rcv]; exact Nat.lt_of_lt_of_le (by decide) (Nat.le_add_right 2 _)
        · show 0 < lvK (kd (.reg barS)); rw [kd_bar]; decide)
  · rw [MayWait_zero]; iintro -; iempintro

end Cert.KProof
end
-- ==== Proof.Regions.lean ====
/-
Rules for pieces of buffer rows: loading and storing one, cutting a row in halves and joining the halves, cutting a
buffer in rows and joining the rows.
-/
module

public import proofs.«01_k».proof.Proof.Protocol
public import Idealize.ShloMosaic.Lib.Pipeline.ValueKit.Geometry
public import Idealize.ShloMosaic.Lib.ViewIndex
public import Idealize.ShloMosaic.Lib.Memref

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of core `c`, run to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

instance elt_nonempty (e : EltTy) : Nonempty (Elt F e) := by
  cases e <;> first | exact ⟨(0 : BitVec _)⟩ | exact ⟨(FloatOps.ofBits _ 0 : F _)⟩

/-- A family of assertions weakened member by member. -/
theorem sep_mono_of {I : Type} {s : Finset I} {Φ Ψ : I → sProp 𝕄} (h : ∀ i ∈ s, Φ i ⊢ Ψ i) : bigSep s Φ ⊢ bigSep s Ψ := bigSep_mono h

/-! ## Loads and stores -/

/-- Loading a piece a device owns continues at what it reads. -/
theorem wp_ldP (c : Dev nD) (P : Part) {n : ℕ} (M : Memref sig .tc .vmem (A3 n P.h) .bf16) (W : M.IsWhole) (j : Fin n) (p : Pc)
    (X : (P3 P.h p.w).Idx → Elt F .bf16) {α : Type} (k : Vec F (P3 P.h p.w) .bf16 → Prog (TpuEff nD τ sig (Elt F) Λ₀ .tc) α) (Q : α → sProp 𝕄) :
    reg c ⟨n, M, W, j⟩ p X ⊢ iprop((reg c ⟨n, M, W, j⟩ p X -∗ wpc c (k X) Q) -∗ wpc c (ldP P M j p k) Q) := by
  unfold reg owns
  iintro ⟨%f, %hf, H⟩ Hk
  iapply (wp_load_rect 𝒱₀ (c : Thread nD τ) none Set.univ (m := M) (r := pr P.h j p) (Finset.Subset.refl _)) $$ H
  iintro H
  have e : (M.access (pr P.h j p)).read (Elt F) f = X := hf
  rw [e]
  iapply Hk
  iexists f
  isplitr; · ipureintro; exact hf
  iexact H

/-- Storing to a piece a device owns leaves the stored values there. -/
theorem wp_stP (c : Dev nD) (P : Part) {n : ℕ} (M : Memref sig .tc .vmem (A3 n P.h) .bf16) (W : M.IsWhole) (j : Fin n) (p : Pc)
    (X v : (P3 P.h p.w).Idx → Elt F .bf16) {α : Type} (k : PUnit → Prog (TpuEff nD τ sig (Elt F) Λ₀ .tc) α) (Q : α → sProp 𝕄) :
    reg c ⟨n, M, W, j⟩ p X ⊢ iprop((reg c ⟨n, M, W, j⟩ p v -∗ wpc c (k ⟨⟩) Q) -∗ wpc c (stP P M W j p v k) Q) := by
  unfold reg owns
  iintro ⟨%f, %hf, H⟩ Hk
  iapply (wp_store 𝒱₀ (c : Thread nD τ) none Set.univ (m := M) (r := pr P.h j p) (Mk := Finset.univ) (w := v) (S := (M.access (pr P.h j p)).set) (f := f) (View.setOn_subset_set _ _)) $$ H
  iintro H
  iapply Hk
  iexists _
  isplitr; swap; · iexact H
  ipureintro
  exact View.read_write_univ (v := M.access (pr P.h j p)) f v

/-! ## Halves -/

section Halves
variable {h : ℕ}

theorem emb_val {n : ℕ} (j : Fin n) (p : Pc) (i : (P3 h p.w).Idx) (a : Fin 3) :
    (((pr h j p).emb i : (A3 n h).Idx) a : ℕ) = (![j.val, 0, p.off] : Fin 3 → ℕ) a + (i a).val :=
  ValueKit.rect_emb_unit_val (s := A3 n h) ![j.val, 0, p.off] ![1, h, p.w] (inb_piece j p) i a

theorem mem_pr {n : ℕ} (j : Fin n) (p : Pc) (y : (A3 n h).Idx) :
    y ∈ (pr h j p).set ↔ (y 0).val = j.val ∧ p.off ≤ (y 2).val ∧ (y 2).val < p.off + p.w := by
  rw [← Rect.map_emb_univ, Finset.mem_map]
  constructor
  · rintro ⟨i, -, rfl⟩
    have h0 := emb_val j p i 0
    have h2 := emb_val j p i 2
    have b0 : (i 0).val < 1 := (i 0).isLt
    have b2 : (i 2).val < p.w := (i 2).isLt
    refine ⟨?_, ?_, ?_⟩
    · refine h0.trans ?_; show j.val + (i 0).val = j.val; omega
    · refine le_of_le_of_eq ?_ h2.symm; exact Nat.le_add_right _ _
    · refine lt_of_eq_of_lt h2 ?_; exact Nat.add_lt_add_left b2 _
  · rintro ⟨e0, e1, e2⟩
    let i : (P3 h p.w).Idx := fun a => match a with
      | 0 => (0 : Fin 1) | 1 => (y 1 : Fin h) | 2 => (⟨(y 2).val - p.off, by omega⟩ : Fin p.w)
    refine ⟨i, Finset.mem_univ _, ?_⟩
    funext a
    apply Fin.ext
    refine (emb_val j p i a).trans ?_
    fin_cases a
    · show j.val + 0 = (y 0).val; omega
    · show 0 + (y 1).val = (y 1).val; omega
    · show p.off + ((y 2).val - p.off) = (y 2).val; omega

/-- A row's contents as contents of all the rows of a buffer. -/
def wide {n : ℕ} (X : Row F h) (y : (A3 n h).Idx) : Elt F .bf16 :=
  X (fun a => match a with | 0 => (0 : Fin 1) | 1 => (y 1 : Fin h) | 2 => (y 2 : Fin 512))
theorem wide_emb {n : ℕ} (j : Fin n) (p : Pc) (X : Row F h) (i : (P3 h p.w).Idx) : wide X ((pr h j p).emb i) = pcv p X i := by
  unfold wide pcv
  congr 1
  funext a
  apply Fin.ext
  fin_cases a
  · show 0 = (i 0).val
    have b0 : (i 0).val < 1 := (i 0).isLt; omega
  · show ((pr h j p).emb i 1 : ℕ) = (i 1).val
    refine (emb_val j p i 1).trans ?_; show 0 + (i 1).val = _; omega
  · show ((pr h j p).emb i 2 : ℕ) = p.off + (i 2).val
    exact emb_val j p i 2

theorem pcv_full (X : Row F h) : pcv .full X = X := by
  funext i
  unfold pcv
  congr 1
  funext a
  apply Fin.ext
  fin_cases a
  · rfl
  · rfl
  · exact Nat.zero_add _

theorem dis_halves {n : ℕ} (j : Fin n) : Disjoint (pr h j .lo).set (pr h j .hi).set := by
  rw [Finset.disjoint_left]
  intro y h1 h2
  have a := (mem_pr _ _ _).mp h1
  have b := (mem_pr _ _ _).mp h2
  have a2 : (y 2).val < 0 + 256 := a.2.2
  have b1 : 256 ≤ (y 2).val := b.2.1
  omega
theorem cov_halves {n : ℕ} (j : Fin n) : (pr h j .full).set = (pr h j .lo).set ∪ (pr h j .hi).set := by
  ext y
  rw [Finset.mem_union, mem_pr, mem_pr, mem_pr]
  show (_ ∧ 0 ≤ _ ∧ _ < 0 + 512) ↔ (_ ∧ 0 ≤ _ ∧ _ < 0 + 256) ∨ (_ ∧ 256 ≤ _ ∧ _ < 256 + 256)
  omega

theorem set_halves (S : Side h) : (S.M.view.slice (pr h S.j .full)).set = (S.M.view.slice (pr h S.j .lo)).set ∪ (S.M.view.slice (pr h S.j .hi)).set := by
  rw [View.set_slice, View.set_slice, View.set_slice, cov_halves, Finset.map_union]

/-- A whole row is its two halves. -/
theorem reg_split (c : Dev nD) (S : Side h) (X : Row F h) :
    reg c S .full X ⊢ iprop(reg c S .lo (pcv .lo X) ∗ reg c S .hi (pcv .hi X)) := by
  have key (f : S.M.view.ty.Contents (Elt F)) (hf : S.M.view.read (Elt F) f ∘ (pr h S.j .full).emb = X) (p : Pc) :
      (S.M.view.loc (c : Thread nD τ) ↦[(S.M.view.slice (pr h S.j p)).set]{fullShare} f : sProp 𝕄) ⊢ reg c S p (pcv p X) := by
    unfold reg
    rw [← owns_slice_read (c : Thread nD τ) S.M fullShare (pr h S.j p) (fun _ => rfl) f]
    apply Entails.of_eq
    congr 1
    funext i
    subst hf
    show S.M.view.read (Elt F) f ((pr h S.j p).emb i) = S.M.view.read (Elt F) f ((pr h S.j .full).emb (pcIdx p i))
    congr 1
    funext a
    apply Fin.ext
    refine (emb_val S.j p i a).trans ((emb_val S.j .full (pcIdx p i) a).trans ?_).symm
    fin_cases a
    · rfl
    · rfl
    · exact Nat.zero_add _
  have hu : reg c S .full X = iprop(∃ f, ⌜(S.pc .full).view.read (Elt F) f = X⌝ ∗ ((S.pc .full).view.loc (c : Thread nD τ) ↦[(S.pc .full).view.set]{fullShare} f)) := rfl
  rw [hu]
  iintro ⟨%f, %hf, H⟩
  ihave H' := (show (S.M.view.loc (c : Thread nD τ) ↦[(S.M.view.slice (pr h S.j .full)).set]{fullShare} f : sProp 𝕄)
      ⊢ iprop((S.M.view.loc (c : Thread nD τ) ↦[(S.M.view.slice (pr h S.j .lo)).set]{fullShare} f) ∗ (S.M.view.loc (c : Thread nD τ) ↦[(S.M.view.slice (pr h S.j .hi)).set]{fullShare} f)) from by
        rw [set_halves]
        exact (pointsTo_union (View.disjoint_slice (dis_halves S.j))).1) $$ H
  icases H' with ⟨H1, H2⟩
  isplitl [H1]
  · iapply (key f hf .lo); iexact H1
  · iapply (key f hf .hi); iexact H2

/-- The two halves are the whole row. -/
theorem reg_join (c : Dev nD) (S : Side h) (X : Row F h) :
    iprop(reg c S .lo (pcv .lo X) ∗ reg c S .hi (pcv .hi X)) ⊢ reg c S .full X := by
  have hX (p : Pc) : reg c S p (pcv p X) = owns (Ix := Unit) (Name := ℕ) (U := UU) (Lvl := ℕ) (c : Thread nD τ) (S.M.slice (pr h S.j p) (fun _ => rfl)) fullShare (fun i => wide X ((pr h S.j p).emb i)) := by
    unfold reg; congr 1; funext i; exact (wide_emb S.j p X i).symm
  have hj := owns_rects_join (Ix := Unit) (Name := ℕ) (U := UU) (Lvl := ℕ) (c : Thread nD τ) S.M fullShare (fun t : Bool => pr h S.j (if t then .hi else .lo)) (fun _ _ => rfl)
    (fun t t' hne => by
      cases t <;> cases t' <;> first | exact absurd rfl hne | exact dis_halves S.j | exact (dis_halves S.j).symm) (wide X) Finset.univ
  rw [hX .lo, hX .hi]
  refine BIBase.Entails.trans ?_ (hj.trans ?_)
  · rw [bigSep_univ_eq_bigSepL [false, true] (by decide) (by decide), bigSepL_cons_cons, bigSepL_singleton]
    exact .rfl
  · unfold reg owns
    iintro ⟨%g, %hg, H⟩
    iexists g
    isplitr
    · ipureintro
      funext i
      have hi : (pr h S.j .full).emb i ∈ (pr h S.j .full).set := by rw [← Rect.map_emb_univ]; exact Finset.mem_map_of_mem _ (Finset.mem_univ i)
      rw [cov_halves, Finset.mem_union] at hi
      have fin (t : Bool) (hi : (pr h S.j .full).emb i ∈ (pr h S.j (if t then .hi else .lo)).set) : S.M.view.read (Elt F) g ((pr h S.j .full).emb i) = X i := by
        rw [← Rect.map_emb_univ, Finset.mem_map] at hi
        obtain ⟨x, -, hx⟩ := hi
        have := hg t (Finset.mem_univ t) x
        dsimp only at this hx
        rw [hx] at this
        rw [this, wide_emb, pcv_full]
      rcases hi with hi | hi
      · exact fin false hi
      · exact fin true hi
    · have e : ((Finset.univ : Finset Bool).biUnion fun t => (S.M.view.slice (pr h S.j (if t then .hi else .lo))).set) = (S.M.view.slice (pr h S.j .full)).set := by
        rw [set_halves]
        ext z
        rw [Finset.mem_biUnion, Finset.mem_union]
        constructor
        · rintro ⟨t, -, hz⟩; cases t
          · exact .inl hz
          · exact .inr hz
        · rintro (hz | hz)
          · exact ⟨false, Finset.mem_univ _, hz⟩
          · exact ⟨true, Finset.mem_univ _, hz⟩
      dsimp only
      rw [e]; iexact H

/-- A device owns a piece, whatever it reads. -/
def any (c : Dev nD) (S : Side h) (p : Pc) : sProp 𝕄 := iprop(∃ X, reg c S p X)
theorem any_intro (c : Dev nD) (S : Side h) (p : Pc) (X : (P3 h p.w).Idx → Elt F .bf16) : reg c S p X ⊢ any c S p := by
  unfold any; iintro H; iexists X; iexact H
theorem any_split (c : Dev nD) (S : Side h) : any (F := F) c S .full ⊢ iprop(any c S .lo ∗ any c S .hi) := by
  unfold any
  iintro ⟨%X, H⟩
  ihave H' := (reg_split c S X) $$ H
  icases H' with ⟨H1, H2⟩
  isplitl [H1]
  · iexists _; iexact H1
  · iexists _; iexact H2

/-- Two halves put together. -/
def glue (A : (P3 h Pc.lo.w).Idx → Elt F .bf16) (B : (P3 h Pc.hi.w).Idx → Elt F .bf16) : Row F h := fun i =>
  if hi : (i 2).val < 256 then A (fun a => match a with | 0 => (i 0 : Fin 1) | 1 => (i 1 : Fin h) | 2 => (⟨(i 2).val, hi⟩ : Fin 256))
  else B (fun a => match a with | 0 => (i 0 : Fin 1) | 1 => (i 1 : Fin h) | 2 => (⟨(i 2).val - 256, by have : (i 2).val < 512 := (i 2).isLt; omega⟩ : Fin 256))
theorem glue_lo (A : (P3 h Pc.lo.w).Idx → Elt F .bf16) (B : (P3 h Pc.hi.w).Idx → Elt F .bf16) : pcv .lo (glue A B) = A := by
  funext i
  have hi : ((pcIdx .lo i : (P3 h 512).Idx) 2).val = (i 2).val := Nat.zero_add _
  have b : (i 2).val < 256 := (i 2).isLt
  unfold pcv glue
  rw [dif_pos (by rw [hi]; exact b)]
  congr 1
  funext a
  apply Fin.ext
  fin_cases a
  · rfl
  · rfl
  · exact hi
theorem glue_hi (A : (P3 h Pc.lo.w).Idx → Elt F .bf16) (B : (P3 h Pc.hi.w).Idx → Elt F .bf16) : pcv .hi (glue A B) = B := by
  funext i
  have hi : ((pcIdx .hi i : (P3 h 512).Idx) 2).val = 256 + (i 2).val := rfl
  unfold pcv glue
  rw [dif_neg (by rw [hi]; omega)]
  congr 1
  funext a
  apply Fin.ext
  fin_cases a
  · rfl
  · rfl
  · show ((pcIdx .hi i : (P3 h 512).Idx) 2).val - 256 = (i 2).val; rw [hi]; omega
theorem any_join (c : Dev nD) (S : Side h) : iprop(any (F := F) c S .lo ∗ any c S .hi) ⊢ any c S .full := by
  unfold any
  iintro ⟨⟨%A, H1⟩, ⟨%B, H2⟩⟩
  iexists glue A B
  iapply (reg_join c S (glue A B))
  rw [glue_lo, glue_hi]
  isplitl [H1] <;> iassumption

/-! ## Rows of a buffer -/

theorem dis_rows {n : ℕ} (j j' : Fin n) (hne : j ≠ j') : Disjoint (pr h j .full).set (pr h j' .full).set := by
  rw [Finset.disjoint_left]
  intro y h1 h2
  exact hne (Fin.ext (((mem_pr _ _ _).mp h1).1.symm.trans ((mem_pr _ _ _).mp h2).1))
theorem cov_rows {n : ℕ} : (Finset.univ : Finset (Fin n)).biUnion (fun j => (pr h j .full).set) = Finset.univ := by
  ext y
  simp only [Finset.mem_biUnion, Finset.mem_univ, true_and, iff_true]
  exact ⟨y 0, (mem_pr _ _ _).mpr ⟨rfl, Nat.zero_le _, by have : (y 2).val < 512 := (y 2).isLt; show _ < 0 + 512; omega⟩⟩

/-- A buffer owned is its rows owned, whatever they read, -/
theorem rows_split (c : Dev nD) {n : ℕ} (M : Memref sig .tc .vmem (A3 n h) .bf16) (W : M.IsWhole) :
    iprop(∃ X, owns (Ix := Unit) (Name := ℕ) (U := UU) (Lvl := ℕ) (c : Thread nD τ) M fullShare X)
      ⊢ bigSep Finset.univ fun j : Fin n => any (F := F) c ⟨n, M, W, j⟩ .full := by
  iintro ⟨%X, H⟩
  ihave H' := (owns_rects (c : Thread nD τ) M fullShare (fun j => pr h j .full) (fun _ _ => rfl) (fun j j' hne => dis_rows j j' hne) cov_rows X) $$ H
  iapply (sep_mono_of fun j _ => any_intro c ⟨n, M, W, j⟩ .full _)
  iexact H'
/-- The contents of a buffer from its rows'. -/
def byRow {n : ℕ} (Xs : Fin n → Row F h) (y : (A3 n h).Idx) : Elt F .bf16 := wide (Xs (y 0 : Fin n)) y
/-- and back. -/
theorem rows_join (c : Dev nD) {n : ℕ} (M : Memref sig .tc .vmem (A3 n h) .bf16) (W : M.IsWhole) :
    (bigSep Finset.univ fun j : Fin n => any (F := F) c ⟨n, M, W, j⟩ .full)
      ⊢ iprop(∃ X, owns (Ix := Unit) (Name := ℕ) (U := UU) (Lvl := ℕ) (c : Thread nD τ) M fullShare X) := by
  unfold any
  haveI : Nonempty ((P3 h Pc.full.w).Idx → Elt F .bf16) := ⟨fun _ => (elt_nonempty (F := F) .bf16).some⟩
  iintro H
  ihave H' := (show (bigSep Finset.univ fun j : Fin n => iprop(∃ X : (P3 h Pc.full.w).Idx → Elt F .bf16, reg c ⟨n, M, W, j⟩ .full X))
      ⊢ iprop(∃ Xs : Fin n → (P3 h Pc.full.w).Idx → Elt F .bf16, bigSep Finset.univ fun j : Fin n => reg c ⟨n, M, W, j⟩ .full (Xs j)) from
        bigSep_exists_pi Finset.univ (fun (j : Fin n) (X : (P3 h Pc.full.w).Idx → Elt F .bf16) => reg c ⟨n, M, W, j⟩ .full X)) $$ H
  icases H' with ⟨%Xs, H⟩
  iexists byRow Xs
  iapply (owns_of_rects (c : Thread nD τ) M fullShare (fun j => pr h j .full) (fun _ _ => rfl) (fun j j' hne => dis_rows j j' hne) cov_rows _)
  have hm : ∀ j ∈ (Finset.univ : Finset (Fin n)), reg c ⟨n, M, W, j⟩ .full (Xs j) ⊢ owns (Ix := Unit) (Name := ℕ) (U := UU) (Lvl := ℕ) (c : Thread nD τ)
      (M.slice (pr h j .full) (fun _ => rfl)) fullShare (fun i => byRow Xs ((pr h j .full).emb i)) := fun j _ => by
    unfold reg
    apply Entails.of_eq
    congr 1
    funext i
    have e0 : (pr h j .full).emb i 0 = j := Fin.ext (by
      refine (emb_val j .full i 0).trans ?_
      show j.val + (i 0).val = j.val
      have b0 : (i 0).val < 1 := (i 0).isLt; omega)
    unfold byRow
    rw [e0]
    exact ((wide_emb j .full (Xs j) i).trans (congrFun (pcv_full (Xs j)) i)).symm
  iapply (sep_mono_of hm)
  iexact H

end Halves

end Cert.KProof
end
-- ==== Proof.Steps.lean ====
/-
One rule per block of the kernel's body: what a device must own before the block, and what it owns after.
-/
module

public import proofs.«01_k».proof.Proof.Regions

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All the cells -/

/-- A semaphore of the exchange: the barrier, or a message's departure or arrival. -/
abbrev Cx : Type := Option (Bool × Msg)
/-- A message's two semaphores. -/
def osem (b : Bool × Msg) : SemLoc sig := if b.1 then .dma (rS b.2.1 b.2.2) else .dma (sS b.2.1 b.2.2)
def csem : Cx → SemLoc sig | none => .reg barS | some b => osem b
def cell (a : Dev nD × Cx) : GSem nD τ sig := ((a.1 : Thread nD τ), csem a.2)
theorem cell_bar (c : Dev nD) : cell (c, none) = barCell c := rfl
theorem cell_snd (c : Dev nD) (y : Msg) : cell (c, some (false, y)) = sndCell c y := rfl
theorem cell_rcv (c : Dev nD) (y : Msg) : cell (c, some (true, y)) = rcvCell c y := rfl

variable (x : Dev nD → XT F)

/-- Every cell's invariant, under the names `K`, and that each has reached its round. -/
def recs (K : Dev nD × Cx → ℕ) : sProp 𝕄 :=
  iprop((bigSep Finset.univ fun a => cellInv ER (Rd x) (K a) (cell a)) ∗ bigSep Finset.univ fun a => reached ER (cell a) 0)
instance recs_persistent (K : Dev nD × Cx → ℕ) : BI.Persistent (recs x K) := by unfold recs; infer_instance

theorem recs_inv (K : Dev nD × Cx → ℕ) (a : Dev nD × Cx) : recs x K ⊢ cellInv ER (Rd x) (K a) (cell a) := by
  unfold recs
  iintro ⟨H, -⟩
  iapply (show (bigSep Finset.univ fun a => cellInv ER (Rd x) (K a) (cell a)) ⊢ cellInv ER (Rd x) (K a) (cell a) from bigSep_elim (Finset.mem_univ a))
  iexact H
theorem recs_reached (K : Dev nD × Cx → ℕ) (a : Dev nD × Cx) : recs x K ⊢ reached ER (cell a) 0 := by
  unfold recs
  iintro ⟨-, H⟩
  iapply (show (bigSep Finset.univ fun a => (reached ER (cell a) 0 : sProp 𝕄)) ⊢ reached ER (cell a) 0 from bigSep_elim (Finset.mem_univ a))
  iexact H

/-- What every step may use: the cells and the levels. -/
def env (K : Dev nD × Cx → ℕ) : sProp 𝕄 := iprop(recs x K ∗ levAts L lv)
instance env_persistent (K : Dev nD × Cx → ℕ) : BI.Persistent (env x K) := by unfold env; infer_instance

/-- What a device still owes, whatever it has waited for. -/
def ow (c : Dev nD) (O : CellTallies nD τ sig Unit) : sProp 𝕄 := iprop(∃ W, owes (c : Thread nD τ) O W)

/-- A device's staged input. -/
def xP (c : Dev nD) : sProp 𝕄 := (((c : Thread nD τ).loc cc0_stg0_0) ↦{fullShare} x c)

/-! ## A message's three states -/

/-- Not started: the tokens to start it with, the place it lands, and the claim on the one that comes. -/
def M0 (c : Dev nD) (y : Msg) : sProp 𝕄 :=
  iprop(atPos ER (sndCell c y) 0 ∅ 0 ∗ atPos ER (rcvCell c y) 0 ∅ 0 ∗ cred (tallyAt (rcvCell c y) () (amt y))
    ∗ dutyTok ER (sndCell c y) 0 0 ∗ dutyTok ER (rcvCell (peer y c) y) 0 0 ∗ land (peer y c) y)
/-- Started. -/
def M1 (c : Dev nD) (y : Msg) : sProp 𝕄 :=
  iprop(atPos ER (sndCell c y) 0 ∅ 0 ∗ atPos ER (rcvCell c y) 0 ∅ 0 ∗ cred (tallyAt (rcvCell c y) () (amt y)) ∗ cred (tallyAt (sndCell c y) () (amt y)))
/-- Done: both semaphores are at zero again. -/
def M2 (c : Dev nD) (y : Msg) : sProp 𝕄 := iprop(semVal (sndCell c y) 0 ∗ semVal (rcvCell c y) 0)

/-! ## Starting a message -/

theorem sq_land {h : ℕ} (c : Dev nD) (S T : Side h) (p : Pc) (hs : (P3 h p.w).Squeezes (P2 h p.w)) (X : (P3 h p.w).Idx → Elt F .bf16)
    (fs : T.M.view.ty.Contents (Elt F)) (fd : S.M.view.ty.Contents (Elt F)) (hf : (T.pc p).view.read (Elt F) fs = X) :
    ((S.sq p hs).view.loc (c : Thread nD τ) ↦[(S.sq p hs).view.set]{fullShare} ((S.sq p hs).view.write (Elt F) fd ((T.sq p hs).view.read (Elt F) fs) Finset.univ) : sProp 𝕄)
      ⊢ reg c S p X := by
  have hset : (S.sq p hs).view.set = (S.pc p).view.set := View.set_reshape _ _
  rw [hset]
  unfold reg owns
  iintro H
  iexists (S.sq p hs).view.write (Elt F) fd ((T.sq p hs).view.read (Elt F) fs) Finset.univ
  isplitr
  · ipureintro
    funext i
    obtain ⟨z, rfl⟩ := (Shape.reshapeEquiv hs.numel_eq).surjective i
    refine (View.read_write_reshape (S.pc p).view hs.numel_eq fd _ z).trans ?_
    rw [← hf]; rfl
  · iexact H

theorem wp_send (K : Dev nD × Cx → ℕ) (c : Dev nD) (k : Fin 3) (i : Fin 10) (d : Dev nD) (hd : d = peer (k, i) c) (l : List Msg)
    {α : Type} (f : PUnit → Prog (TpuEff nD τ sig (Elt F) Λ₀ .tc) α) (Q : α → sProp 𝕄) :
    iprop(env x K ∗ M0 c (k, i) ∗ sndPay x c (k, i) ∗ ow c (owesL c ((k, i) :: l)))
      ⊢ iprop(((M1 c (k, i) ∗ ow c (owesL c l)) -∗ wpc c (f ⟨⟩) Q) -∗ wpc c (send k i d >>= f) Q) := by
  subst hd
  unfold env M0 land sndPay ow
  have hu (S : Side (part k).h) (c : Dev nD) (X) : reg (F := F) c S (mp i) X = iprop(∃ f, ⌜(S.pc (mp i)).view.read (Elt F) f = X⌝ ∗ ((S.pc (mp i)).view.loc (c : Thread nD τ) ↦[(S.pc (mp i)).view.set]{fullShare} f)) := rfl
  simp only [hu]
  iintro ⟨⟨#HR, #HL⟩, ⟨HaS, HaR, HcR, HtS, HtR, ⟨%X, %fd, %hfd, Hd⟩⟩, ⟨%fs, %hfs, Hs⟩, ⟨%W, HO⟩⟩ Hk
  iapply (Rounds.wp_send_pointsTo 𝒱₀ ER (Rd x) (c : Thread nD τ) none (κ₁ := K (c, some (false, (k, i)))) (κ₂ := K (peer (k, i) c, some (true, (k, i))))
    (c' := (peer (k, i) c : Thread nD τ)) (src := ((part k).src i).sq (mp i) ((part k).sq (mp i))) (dst := ((part k).dst i).sq (mp i) ((part k).sq (mp i)))
    (sS := .dma (sS k i)) (sem := .dma (rS k i)) (q := fullShare) (fs := fs) (fd := fd)
    (r₁ := 0) (r₂ := 0) (d₁ := 0) (d₂ := 0)
    (by rw [duties_snd x c (k, i)]; exact Finset.mem_singleton_self _) (by rw [duties_rcv x (peer (k, i) c) (k, i)]; exact Finset.mem_singleton_self _)
    () () (amt (k, i)) (amt_sq (k, i) _ _) (amount_snd x c (k, i) 0) (amount_rcv x (peer (k, i) c) (k, i) 0) (owesL c l) rfl (W := W)
    (by
      rw [payload_snd x c (k, i)]; unfold sndPay
      have hset : (((part k).src i).sq (mp i) ((part k).sq (mp i))).view.set = (((part k).src i).pc (mp i)).view.set := View.set_reshape _ _
      rw [hset, hu]
      iintro H; iexists fs; isplitr; · (ipureintro; exact hfs)
      iexact H)
    (by
      rw [payload_rcv x (peer (k, i) c) (k, i)]; unfold rcvPay
      rw [peer_peer]
      exact sq_land (peer (k, i) c) _ _ (mp i) _ _ fs fd hfs)) $$ [HO Hs Hd HtS HtR]
  · isplitr; · iapply (recs_inv x K (c, some (false, (k, i)))); iexact HR
    isplitr; · iapply (recs_inv x K (peer (k, i) c, some (true, (k, i)))); iexact HR
    isplitl [Hs]
    · rw [show (((part k).src i).sq (mp i) ((part k).sq (mp i))).view.set = (((part k).src i).pc (mp i)).view.set from View.set_reshape _ _]
      iexact Hs
    isplitl [Hd]
    · rw [show (((part k).dst i).sq (mp i) ((part k).sq (mp i))).view.set = (((part k).dst i).pc (mp i)).view.set from View.set_reshape _ _]
      iexact Hd
    isplitl [HO]; · iexact HO
    isplitl [HtS]; · iexact HtS
    isplitr; · iapply (recs_reached x K (c, some (false, (k, i)))); iexact HR
    isplitl [HtR]; · iexact HtR
    iapply (recs_reached x K (peer (k, i) c, some (true, (k, i)))); iexact HR
  iintro ⟨HcS, HO⟩
  iapply Hk
  unfold M1
  isplitr [HO]
  · iframe
  · iexists W; iexact HO

/-- Message 7 is started like the others, with its unit axis. -/
theorem wp_send7 (K : Dev nD × Cx → ℕ) (c : Dev nD) (k : Fin 3) (d : Dev nD) (hd : d = peer (k, 7) c) (l : List Msg)
    {α : Type} (f : PUnit → Prog (TpuEff nD τ sig (Elt F) Λ₀ .tc) α) (Q : α → sProp 𝕄) :
    iprop(env x K ∗ M0 c (k, 7) ∗ sndPay x c (k, 7) ∗ ow c (owesL c ((k, 7) :: l)))
      ⊢ iprop(((M1 c (k, 7) ∗ ow c (owesL c l)) -∗ wpc c (f ⟨⟩) Q) -∗ wpc c (send7 k d >>= f) Q) := by
  subst hd
  unfold env M0 land sndPay ow
  have hu (S : Side (part k).h) (c : Dev nD) (X) : reg (F := F) c S (mp 7) X = iprop(∃ f, ⌜(S.pc (mp 7)).view.read (Elt F) f = X⌝ ∗ ((S.pc (mp 7)).view.loc (c : Thread nD τ) ↦[(S.pc (mp 7)).view.set]{fullShare} f)) := rfl
  simp only [hu]
  iintro ⟨⟨#HR, #HL⟩, ⟨HaS, HaR, HcR, HtS, HtR, ⟨%X, %fd, %hfd, Hd⟩⟩, ⟨%fs, %hfs, Hs⟩, ⟨%W, HO⟩⟩ Hk
  iapply (Rounds.wp_send_pointsTo 𝒱₀ ER (Rd x) (c : Thread nD τ) none (κ₁ := K (c, some (false, (k, 7)))) (κ₂ := K (peer (k, 7) c, some (true, (k, 7))))
    (c' := (peer (k, 7) c : Thread nD τ)) (src := ((part k).src 7).pc .full) (dst := ((part k).dst 7).pc .full)
    (sS := .dma (sS k 7)) (sem := .dma (rS k 7)) (q := fullShare) (fs := fs) (fd := fd)
    (r₁ := 0) (r₂ := 0) (d₁ := 0) (d₂ := 0)
    (by rw [duties_snd x c (k, 7)]; exact Finset.mem_singleton_self _) (by rw [duties_rcv x (peer (k, 7) c) (k, 7)]; exact Finset.mem_singleton_self _)
    () () (amt (k, 7)) (amt_pc (k, 7) _) (amount_snd x c (k, 7) 0) (amount_rcv x (peer (k, 7) c) (k, 7) 0) (owesL c l) rfl (W := W)
    (by
      rw [payload_snd x c (k, 7)]; unfold sndPay
      rw [hu]
      iintro H; iexists fs; isplitr; · (ipureintro; exact hfs)
      iexact H)
    (by
      rw [payload_rcv x (peer (k, 7) c) (k, 7)]; unfold rcvPay
      rw [peer_peer, hu]
      iintro H; iexists _; isplitr; swap; · iexact H
      ipureintro
      exact (View.read_write_univ (v := (((part k).dst 7).pc .full).view) fd _).trans hfs)) $$ [HO Hs Hd HtS HtR]
  · isplitr; · iapply (recs_inv x K (c, some (false, (k, 7)))); iexact HR
    isplitr; · iapply (recs_inv x K (peer (k, 7) c, some (true, (k, 7)))); iexact HR
    isplitl [Hs]; · iexact Hs
    isplitl [Hd]; · iexact Hd
    isplitl [HO]; · iexact HO
    isplitl [HtS]; · iexact HtS
    isplitr; · iapply (recs_reached x K (c, some (false, (k, 7)))); iexact HR
    isplitl [HtR]; · iexact HtR
    iapply (recs_reached x K (peer (k, 7) c, some (true, (k, 7)))); iexact HR
  iintro ⟨HcS, HO⟩
  iapply Hk
  unfold M1
  isplitr [HO]
  · iframe
  · iexists W; iexact HO

/-! ## Waiting for a message -/

/-- The two waits of a message, for any two memrefs whose waits are of the message's units. -/
theorem wp_waits_gen (K : Dev nD × Cx → ℕ) (c : Dev nD) (y : Msg) (l : List Msg) (hl : ∀ z ∈ l, (stg y.2).val < (stg z.2).val)
    {s : Shape} (A B : Memref sig .tc .vmem s .bf16) (hA : A.view.dmaCredit = amt y) (hB : B.view.dmaCredit = amt y) (wA : A.view.WordExact) (wB : B.view.WordExact)
    {α : Type} (f : PUnit → Prog (TpuEff nD τ sig (Elt F) Λ₀ .tc) α) (Q : α → sProp 𝕄) :
    iprop(env x K ∗ M1 c y ∗ ow c (owesL c l))
      ⊢ iprop(((M2 c y ∗ sndPay x c y ∗ rcvPay x c y ∗ ow c (owesL c l)) -∗ wpc c (f ⟨⟩) Q)
          -∗ wpc c (.op (.waitDma2 (sS y.1 y.2) B A wB wA) fun _ => .op (.waitDma2 (rS y.1 y.2) A B wA wB) f) Q) := by
  unfold env M1 ow
  iintro ⟨⟨#HR, #HL⟩, ⟨HaS, HaR, HcR, HcS⟩, ⟨%W, HO⟩⟩ Hk
  iapply (Rounds.wp_wait_rest_token 𝒱₀ ER (Rd x) (c : Thread nD τ) none (κ := K (c, some (false, y)))
    (wpE_waitDma2_eq 𝒱₀ (c : Thread nD τ) none Set.univ) (Set.mem_univ _) () (O := owesL c l) (W := W) (R := 0) (m := 0) (T := ∅)
    (by rw [Nat.zero_add, hA]; exact (expect_snd x c y).symm)) $$ [HcS HO HaS]
  · isplitr; · iapply (recs_inv x K (c, some (false, y))); iexact HR
    isplitl [HcS]; · rw [hA]; iexact HcS
    isplitl [HO]; · iexact HO
    isplitr
    · iapply (mayWait_L c (.dma (sS y.1 y.2)) l (fun z _ => by rw [kd_snd]; exact Nat.lt_of_lt_of_le (show (0 : ℕ) < 2 by decide) (Nat.le_add_right 2 _)))
      iexact HL
    iexact HaS
  iintro ⟨HO, HaS, -, Hp⟩
  ihave Hs := (Entails.of_eq (rest_snd x c y)) $$ Hp
  iapply (Rounds.wp_wait_rest_token 𝒱₀ ER (Rd x) (c : Thread nD τ) none (κ := K (c, some (true, y)))
    (wpE_waitDma2_eq 𝒱₀ (c : Thread nD τ) none Set.univ) (Set.mem_univ _) () (O := owesL c l) (R := 0) (m := 0) (T := ∅)
    (by rw [Nat.zero_add, hB]; exact (expect_rcv x c y).symm)) $$ [HcR HO HaR]
  · isplitr; · iapply (recs_inv x K (c, some (true, y))); iexact HR
    isplitl [HcR]; · rw [hB]; iexact HcR
    isplitl [HO]; · iexact HO
    isplitr
    · iapply (mayWait_L c (.dma (rS y.1 y.2)) l (fun z hz => by rw [kd_rcv]; exact Nat.add_lt_add_left (hl z hz) 2))
      iexact HL
    iexact HaR
  iintro ⟨HO, HaR, -, Hp⟩
  ihave Hr := (Entails.of_eq (rest_rcv x c y)) $$ Hp
  imod (Rounds.cell_close ER (Rd x) (Set.mem_univ (K (c, some (false, y)))) (fun h => h) (R := 0 + 1) (duties_later x (sndCell c y))) $$ [HaS] with HzS
  · isplitr; · iapply (recs_inv x K (c, some (false, y))); iexact HR
    iexact HaS
  imod (Rounds.cell_close ER (Rd x) (Set.mem_univ (K (c, some (true, y)))) (fun h => h) (R := 0 + 1) (duties_later x (rcvCell c y))) $$ [HaR] with HzR
  · isplitr; · iapply (recs_inv x K (c, some (true, y))); iexact HR
    iexact HaR
  iapply Hk
  unfold M2
  isplitl [HzS HzR]
  · isplitl [HzS] <;> iassumption
  isplitl [Hs]; · iexact Hs
  isplitl [Hr]; · iexact Hr
  iexists _; iexact HO

theorem wp_waits (K : Dev nD × Cx → ℕ) (c : Dev nD) (k : Fin 3) (i : Fin 10) (l : List Msg) (hl : ∀ z ∈ l, (stg i).val < (stg z.2).val)
    {α : Type} (f : PUnit → Prog (TpuEff nD τ sig (Elt F) Λ₀ .tc) α) (Q : α → sProp 𝕄) :
    iprop(env x K ∗ M1 c (k, i) ∗ ow c (owesL c l))
      ⊢ iprop(((M2 c (k, i) ∗ sndPay x c (k, i) ∗ rcvPay x c (k, i) ∗ ow c (owesL c l)) -∗ wpc c (f ⟨⟩) Q) -∗ wpc c (waits k i >>= f) Q) :=
  wp_waits_gen x K c (k, i) l hl _ _ (amt_sq (k, i) _ _) (amt_sq (k, i) _ _) _ _ f Q
theorem wp_waits7 (K : Dev nD × Cx → ℕ) (c : Dev nD) (k : Fin 3) (l : List Msg) (hl : ∀ z ∈ l, (stg 7).val < (stg z.2).val)
    {α : Type} (f : PUnit → Prog (TpuEff nD τ sig (Elt F) Λ₀ .tc) α) (Q : α → sProp 𝕄) :
    iprop(env x K ∗ M1 c (k, 7) ∗ ow c (owesL c l))
      ⊢ iprop(((M2 c (k, 7) ∗ sndPay x c (k, 7) ∗ rcvPay x c (k, 7) ∗ ow c (owesL c l)) -∗ wpc c (f ⟨⟩) Q) -∗ wpc c (waits7 k >>= f) Q) :=
  wp_waits_gen x K c (k, 7) l hl _ _ (amt_pc (k, 7) _) (amt_pc (k, 7) _) _ _ f Q

/-! ## The local steps -/

theorem cast_cast {h w : ℕ} (v : Vec F (P3 h w) .bf16) : ofMat (toMat v) = v := shapeCast_shapeCast _ _ _

/-- Staging a row: it then holds the part's rows of stripe `q` of the input. -/
theorem wp_stage (c : Dev nD) (k : Fin 3) (q : Dev nD) (o : Fin 3 → ℕ) (hin) (ho : o = ![0, 512 * q.val + off k, 0])
    (M : Memref sig .tc .vmem (A3 4 (part k).h) .bf16) (W : M.IsWhole) (j : Fin 4)
    {α : Type} (f : PUnit → Prog (TpuEff nD τ sig (Elt F) Λ₀ .tc) α) (Q : α → sProp 𝕄) :
    iprop(xP x c ∗ any c ⟨4, M, W, j⟩ .full)
      ⊢ iprop(((xP x c ∗ reg c ⟨4, M, W, j⟩ .full (pcv .full (rows (x c) k q))) -∗ wpc c (f ⟨⟩) Q) -∗ wpc c (stage (part k) o hin M W j >>= f) Q) := by
  subst ho
  unfold xP any
  rw [pcv_full]
  iintro ⟨Hx, ⟨%X, H⟩⟩ Hk
  iapply (wp_load_rect 𝒱₀ (c : Thread nD τ) none Set.univ (m := xM) (r := Rect.unit (s := S1x4096x512) ![0, 512 * q.val + off k, 0] (P3 (part k).h 512).size hin) (S := Finset.univ) (q := fullShare) (f := x c) (Finset.subset_univ _)) $$ Hx; iintro Hx
  iapply (wp_ldP c (part k) M W j .full X _ Q) $$ H; iintro H
  iapply (wp_stP c (part k) M W j .full X _ _ Q) $$ H; iintro H
  iapply Hk
  isplitl [Hx]; · iexact Hx
  have e : shapeCast (P3 (part k).h 512) (shapeCast (P2 (part k).h 512)
      ((xM.access (Rect.unit (s := S1x4096x512) ![0, 512 * q.val + off k, 0] (P3 (part k).h 512).size hin)).read (Elt F) (x c) : Vec F (P3 (part k).h 512) .bf16) (P3_P2 _ _)) (P2_P3 _ _)
      = rows (x c) k q := (shapeCast_shapeCast _ _ _).trans rfl
  iapply (show reg c ⟨4, M, W, j⟩ .full (shapeCast (P3 (part k).h 512) (shapeCast (P2 (part k).h 512)
      ((xM.access (Rect.unit (s := S1x4096x512) ![0, 512 * q.val + off k, 0] (P3 (part k).h 512).size hin)).read (Elt F) (x c) : Vec F (P3 (part k).h 512) .bf16) (P3_P2 _ _)) (P2_P3 _ _))
      ⊢ reg c ⟨4, M, W, j⟩ .full (rows (x c) k q) from Entails.of_eq (congrArg (reg c ⟨4, M, W, j⟩ .full) e))
  iexact H

/-- Adding the kept piece to the landed one. -/
theorem wp_add2 (c : Dev nD) (P : Part) (j : Fin 4) (p : Pc) (A B : Row F P.h)
    {α : Type} (f : PUnit → Prog (TpuEff nD τ sig (Elt F) Λ₀ .tc) α) (Q : α → sProp 𝕄) :
    iprop(reg c ⟨4, P.R1, P.wR1, j⟩ p (pcv p A) ∗ reg c ⟨4, P.XK, P.wXK, j⟩ p (pcv p B) ∗ any c ⟨4, P.AC, P.wAC, j⟩ p)
      ⊢ iprop(((reg c ⟨4, P.R1, P.wR1, j⟩ p (pcv p A) ∗ reg c ⟨4, P.XK, P.wXK, j⟩ p (pcv p B) ∗ reg c ⟨4, P.AC, P.wAC, j⟩ p (pcv p (vadd A B))) -∗ wpc c (f ⟨⟩) Q)
          -∗ wpc c (add2 P j p >>= f) Q) := by
  unfold any
  iintro ⟨HA, HB, ⟨%X, H⟩⟩ Hk
  iapply (wp_ldP c P P.R1 P.wR1 j p (pcv p A) _ Q) $$ HA; iintro HA
  iapply (wp_ldP c P P.XK P.wXK j p (pcv p B) _ Q) $$ HB; iintro HB
  iapply (wp_ldP c P P.AC P.wAC j p X _ Q) $$ H; iintro H
  iapply (wp_stP c P P.AC P.wAC j p X _ _ Q) $$ H; iintro H
  iapply Hk
  isplitl [HA]; · iexact HA
  isplitl [HB]; · iexact HB
  have e : ofMat (addf (toMat (pcv p A)) (toMat (pcv p B))) = pcv p (vadd A B) :=
    (cast_cast (F := F) (h := P.h) (w := p.w) (addf (pcv p A) (pcv p B)) :)
  rw [e]
  iexact H

/-- Adding the second landed piece as well. -/
theorem wp_add3 (c : Dev nD) (P : Part) (p : Pc) (A B C : Row F P.h)
    {α : Type} (f : PUnit → Prog (TpuEff nD τ sig (Elt F) Λ₀ .tc) α) (Q : α → sProp 𝕄) :
    iprop(reg c ⟨4, P.R1, P.wR1, 1⟩ p (pcv p A) ∗ reg c ⟨4, P.XK, P.wXK, 1⟩ p (pcv p B) ∗ reg c ⟨2, P.R2, P.wR2, 1⟩ p (pcv p C) ∗ any c ⟨4, P.AC, P.wAC, 1⟩ p)
      ⊢ iprop(((reg c ⟨4, P.R1, P.wR1, 1⟩ p (pcv p A) ∗ reg c ⟨4, P.XK, P.wXK, 1⟩ p (pcv p B) ∗ reg c ⟨2, P.R2, P.wR2, 1⟩ p (pcv p C)
            ∗ reg c ⟨4, P.AC, P.wAC, 1⟩ p (pcv p (vadd (vadd A B) C))) -∗ wpc c (f ⟨⟩) Q)
          -∗ wpc c (add3 P p >>= f) Q) := by
  unfold any
  iintro ⟨HA, HB, HC, ⟨%X, H⟩⟩ Hk
  iapply (wp_ldP c P P.R1 P.wR1 1 p (pcv p A) _ Q) $$ HA; iintro HA
  iapply (wp_ldP c P P.XK P.wXK 1 p (pcv p B) _ Q) $$ HB; iintro HB
  iapply (wp_ldP c P P.R2 P.wR2 1 p (pcv p C) _ Q) $$ HC; iintro HC
  iapply (wp_ldP c P P.AC P.wAC 1 p X _ Q) $$ H; iintro H
  iapply (wp_stP c P P.AC P.wAC 1 p X _ _ Q) $$ H; iintro H
  iapply Hk
  isplitl [HA]; · iexact HA
  isplitl [HB]; · iexact HB
  isplitl [HC]; · iexact HC
  have e : ofMat (addf (addf (toMat (pcv p A)) (toMat (pcv p B))) (toMat (pcv p C))) = pcv p (vadd (vadd A B) C) :=
    (cast_cast (F := F) (h := P.h) (w := p.w) (addf (addf (pcv p A) (pcv p B)) (pcv p C)) :)
  rw [e]
  iexact H

/-- Adding the second landed row to the accumulator's row 0. -/
theorem wp_addAcc (c : Dev nD) (P : Part) (A B : Row F P.h)
    {α : Type} (f : PUnit → Prog (TpuEff nD τ sig (Elt F) Λ₀ .tc) α) (Q : α → sProp 𝕄) :
    iprop(reg c ⟨4, P.AC, P.wAC, 0⟩ .full (pcv .full A) ∗ reg c ⟨2, P.R2, P.wR2, 0⟩ .full (pcv .full B))
      ⊢ iprop(((reg c ⟨4, P.AC, P.wAC, 0⟩ .full (pcv .full (vadd A B)) ∗ reg c ⟨2, P.R2, P.wR2, 0⟩ .full (pcv .full B)) -∗ wpc c (f ⟨⟩) Q)
          -∗ wpc c (addAcc P >>= f) Q) := by
  iintro ⟨HA, HB⟩ Hk
  iapply (wp_ldP c P P.AC P.wAC 0 .full (pcv .full A) _ Q) $$ HA; iintro HA
  iapply (wp_ldP c P P.R2 P.wR2 0 .full (pcv .full B) _ Q) $$ HB; iintro HB
  iapply (wp_ldP c P P.AC P.wAC 0 .full (pcv .full A) _ Q) $$ HA; iintro HA
  iapply (wp_stP c P P.AC P.wAC 0 .full (pcv .full A) _ _ Q) $$ HA; iintro HA
  iapply Hk
  isplitl [HA]
  · have e : ofMat (addf (toMat (pcv .full A)) (toMat (pcv .full B))) = pcv .full (vadd A B) :=
      (cast_cast (F := F) (h := P.h) (w := Pc.full.w) (addf (pcv .full A) (pcv .full B)) :)
    rw [e]; iexact HA
  iexact HB

/-- The whole of a device's result buffer, and of its staged scale. -/
def oP (c : Dev nD) (f : (cc0_stg2_0 : Ref sig .tc).ty.Contents (Elt F)) : sProp 𝕄 := (((c : Thread nD τ).loc cc0_stg2_0) ↦{fullShare} f)
def gP (c : Dev nD) (g : GT F) : sProp 𝕄 := (((c : Thread nD τ).loc cc0_stg1_0) ↦{fullShare} g)

/-- The part's rows of a result buffer replaced. -/
def putRows {h : ℕ} (f : (cc0_stg2_0 : Ref sig .tc).ty.Contents (Elt F)) (o : ℕ) (hin : ∀ a, (![o, 0] : Fin 2 → ℕ) a + (P2 h 512).size a ≤ S512x512.size a)
    (v : FVec F (P2 h 512) .f32) : (cc0_stg2_0 : Ref sig .tc).ty.Contents (Elt F) :=
  (oM.access (Rect.unit (s := S512x512) ![o, 0] (P2 h 512).size hin)).write (Elt F) f v Finset.univ

/-- The last step of a part stores its rows of the result. -/
theorem wp_finish (c : Dev nD) (P : Part) (o : ℕ) (hin) (A B : Row F P.h) (g : GT F) (f₀ : (cc0_stg2_0 : Ref sig .tc).ty.Contents (Elt F))
    {α : Type} (f : PUnit → Prog (TpuEff nD τ sig (Elt F) Λ₀ .tc) α) (Q : α → sProp 𝕄) :
    iprop(reg c ⟨4, P.AC, P.wAC, 0⟩ .full (pcv .full A) ∗ reg c ⟨1, P.R3, P.wR3, 0⟩ .full B ∗ gP c g ∗ oP c f₀)
      ⊢ iprop(((reg c ⟨4, P.AC, P.wAC, 0⟩ .full (pcv .full A) ∗ reg c ⟨1, P.R3, P.wR3, 0⟩ .full B ∗ gP c g ∗ oP c (putRows f₀ o hin (outRows P A B g))) -∗ wpc c (f ⟨⟩) Q)
          -∗ wpc c (finish P o hin >>= f) Q) := by
  rw [pcv_full]
  unfold gP oP
  iintro ⟨HA, HB, Hg, Ho⟩ Hk
  iapply (wp_ldP c P P.AC P.wAC 0 .full A _ Q) $$ HA; iintro HA
  iapply (wp_ldP c P P.R3 P.wR3 0 .full B _ Q) $$ HB; iintro HB
  iapply (wp_load 𝒱₀ (c : Thread nD τ) none Set.univ (m := gM) (r := (Rect.unit (s := S512) ![0] S512.size inb_S512_S512_0).toLoadRect) (S := Finset.univ) (q := fullShare) (f := g) (Finset.subset_univ _)) $$ Hg; iintro Hg
  iapply (wp_load_rect 𝒱₀ (c : Thread nD τ) none Set.univ (m := oM) (r := Rect.unit (s := S512x512) ![o, 0] (P2 P.h 512).size hin) (S := Finset.univ) (q := fullShare) (f := f₀) (Finset.subset_univ _)) $$ Ho; iintro Ho
  iapply (wp_store 𝒱₀ (c : Thread nD τ) none Set.univ (m := oM) (r := Rect.unit (s := S512x512) ![o, 0] (P2 P.h 512).size hin) (Mk := Finset.univ) (S := Finset.univ) (f := f₀) (Finset.subset_univ _)) $$ Ho; iintro Ho
  iapply Hk
  isplitl [HA]; · iexact HA
  isplitl [HB]; · iexact HB
  isplitl [Hg]; · iexact Hg
  have hz : (![0] : Fin 1 → Nat) = fun _ => 0 := funext fun a => by fin_cases a; rfl
  have eg : gM.view.readAt (Elt F) (Rect.unit (s := S512) ![0] S512.size inb_S512_S512_0).toLoadRect g = g :=
    Memref.readAt_unit_zero (Elt F) cc0_stg1_0 hz _ g
  rw [eg]
  iexact Ho

end Cert.KProof
end
-- ==== Proof.Phases.lean ====
/-
The body in phases of one part: a phase is the blocks between two points of the body at which the part's turn comes.
Every phase is proved for the three parts at once.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → XT F)

/-! ## The barrier -/

/-- A family over the messages, by direction. -/
theorem by_dir (Φ : Msg → sProp 𝕄) : bigSep Finset.univ Φ = bigSep Finset.univ fun d : Fin 3 => bigSep (Finset.univ.filter fun y : Msg => dir y = d) Φ := by
  have hU : (Finset.univ : Finset Msg) = Finset.univ.biUnion fun d : Fin 3 => Finset.univ.filter fun y : Msg => dir y = d := by
    ext y; simp
  conv_lhs => rw [hU]
  rw [bigSep_biUnion_eq]
  intro d _ d' _ hd
  exact Finset.disjoint_filter.mpr fun y _ h1 h2 => hd (h1.symm.trans h2)

theorem pay_bar (c : Dev nD) (d : Fin 3) : barPay (F := F) (nb (bm d) c) d = bigSep (Finset.univ.filter fun y : Msg => dir y = d) fun y => land c y := by
  unfold barPay; rw [nb_nb]

/-- What the barrier takes: the device's place at it, its claim on the three units, the three tokens to signal with, and the landing places. -/
def B0 (c : Dev nD) : sProp 𝕄 :=
  iprop(atPos ER (barCell c) 0 ∅ 0 ∗ cred (tallyAt (barCell c) () 3)
    ∗ (dutyTok ER (barCell (nb 1 c)) 0 0 ∗ dutyTok ER (barCell (nb 3 c)) 0 1 ∗ dutyTok ER (barCell (nb 4 c)) 0 2)
    ∗ bigSep Finset.univ fun y : Msg => land c y)
/-- What it gives: the places where the device's messages will land. -/
def B1 (c : Dev nD) : sProp 𝕄 := iprop(semVal (barCell c) 0 ∗ bigSep Finset.univ fun y : Msg => land (peer y c) y)

theorem wp_barrier (K : Dev nD × Cx → ℕ) (c d₁ d₂ d₃ : Dev nD) (h₁ : d₁ = nb 1 c) (h₂ : d₂ = nb 3 c) (h₃ : d₃ = nb 4 c)
    {α : Type} (f : PUnit → Prog (TpuEff nD τ sig (Elt F) Λ₀ .tc) α) (Q : α → sProp 𝕄) :
    iprop(env x K ∗ B0 c ∗ ow c (O₀ c))
      ⊢ iprop(((B1 c ∗ ow c (owesL c ord)) -∗ wpc c (f ⟨⟩) Q) -∗ wpc c (barrier d₁ d₂ d₃ >>= f) Q) := by
  subst h₁ h₂ h₃
  unfold env B0 ow
  rw [by_dir, bigSep_congr (fun d _ => (pay_bar c d).symm), bigSep_univ_eq_bigSepL [0, 1, 2] (by decide) (by decide)]
  show iprop((recs x K ∗ levAts L lv) ∗ (atPos ER (barCell c) 0 ∅ 0 ∗ cred (tallyAt (barCell c) () 3)
    ∗ (dutyTok ER (barCell (nb 1 c)) 0 0 ∗ dutyTok ER (barCell (nb 3 c)) 0 1 ∗ dutyTok ER (barCell (nb 4 c)) 0 2)
    ∗ (barPay (nb (bm 0) c) 0 ∗ barPay (nb (bm 1) c) 1 ∗ barPay (nb (bm 2) c) 2)) ∗ ∃ W, owes (c : Thread nD τ) (O₀ c) W) ⊢ _
  iintro ⟨⟨#HR, #HL⟩, ⟨Hat, Hc, ⟨Ht1, Ht2, Ht3⟩, ⟨Hl1, Hl2, Hl3⟩⟩, ⟨%W, HO⟩⟩ Hk
  iapply (Rounds.wp_signal 𝒱₀ ER (Rd x) (c : Thread nD τ) none (dst := (nb 1 c : Thread nD τ)) (κ := K (nb 1 c, none)) (d := 0)
    (by rw [duties_bar]; exact Finset.mem_univ _) ((amount_bar x (nb 1 c) 0).trans (by decide)) () (owesL c ord + tallyAt (barCell (nb 4 c)) () 1 + tallyAt (barCell (nb 3 c)) () 1) rfl) $$ [HO Ht1 Hl1]
  · isplitr; · iapply (recs_inv x K (nb 1 c, none)); iexact HR
    isplitl [HO]; · iexact HO
    isplitl [Ht1]; · iexact Ht1
    isplitl [Hl1]; · rw [payload_bar x (nb 1 c) 0]; iexact Hl1
    iapply (recs_reached x K (nb 1 c, none)); iexact HR
  iintro HO
  iapply (Rounds.wp_signal 𝒱₀ ER (Rd x) (c : Thread nD τ) none (dst := (nb 3 c : Thread nD τ)) (κ := K (nb 3 c, none)) (d := 1)
    (by rw [duties_bar]; exact Finset.mem_univ _) ((amount_bar x (nb 3 c) 1).trans (by decide)) () (owesL c ord + tallyAt (barCell (nb 4 c)) () 1) rfl) $$ [HO Ht2 Hl2]
  · isplitr; · iapply (recs_inv x K (nb 3 c, none)); iexact HR
    isplitl [HO]; · iexact HO
    isplitl [Ht2]; · iexact Ht2
    isplitl [Hl2]; · rw [payload_bar x (nb 3 c) 1]; iexact Hl2
    iapply (recs_reached x K (nb 3 c, none)); iexact HR
  iintro HO
  iapply (Rounds.wp_signal 𝒱₀ ER (Rd x) (c : Thread nD τ) none (dst := (nb 4 c : Thread nD τ)) (κ := K (nb 4 c, none)) (d := 2)
    (by rw [duties_bar]; exact Finset.mem_univ _) ((amount_bar x (nb 4 c) 2).trans (by decide)) () (owesL c ord) rfl) $$ [HO Ht3 Hl3]
  · isplitr; · iapply (recs_inv x K (nb 4 c, none)); iexact HR
    isplitl [HO]; · iexact HO
    isplitl [Ht3]; · iexact Ht3
    isplitl [Hl3]; · rw [payload_bar x (nb 4 c) 2]; iexact Hl3
    iapply (recs_reached x K (nb 4 c, none)); iexact HR
  iintro HO
  iapply (Rounds.wp_wait_rest_token 𝒱₀ ER (Rd x) (c : Thread nD τ) none (κ := K (c, none))
    (wpE_semWait_eq 𝒱₀ (c : Thread nD τ) none Set.univ) (Set.mem_univ _) () (O := owesL c ord) (W := W) (R := 0) (m := 0) (T := ∅)
    (by rw [Nat.zero_add, expect_bar x c]; rfl)) $$ [Hc HO Hat]
  · isplitr; · iapply (recs_inv x K (c, none)); iexact HR
    isplitl [Hc]; · iexact Hc
    isplitl [HO]; · iexact HO
    isplitr
    · iapply (mayWait_L c (.reg barS) ord (fun z _ => by rw [kd_bar]; exact Nat.lt_of_lt_of_le (show (1 : ℕ) < 2 by decide) (Nat.le_add_right 2 _)))
      iexact HL
    iexact Hat
  iintro ⟨HO, Hat, -, Hp⟩
  ihave Hl := (Entails.of_eq (rest_bar x c)) $$ Hp
  imod (Rounds.cell_close ER (Rd x) (Set.mem_univ (K (c, none))) (fun h => h) (R := 0 + 1) (duties_later x (barCell c))) $$ [Hat] with Hz
  · isplitr; · iapply (recs_inv x K (c, none)); iexact HR
    iexact Hat
  iapply Hk
  unfold B1
  isplitr [HO]
  · isplitl [Hz] <;> iassumption
  iexists _; iexact HO

/-! ## Staging and sending -/

abbrev s1 (k : Fin 3) (j : Fin 4) : Side (part k).h := ⟨4, (part k).S1, (part k).wS1, j⟩
abbrev xk (k : Fin 3) (j : Fin 4) : Side (part k).h := ⟨4, (part k).XK, (part k).wXK, j⟩
abbrev r1 (k : Fin 3) (j : Fin 4) : Side (part k).h := ⟨4, (part k).R1, (part k).wR1, j⟩
abbrev ac (k : Fin 3) (j : Fin 4) : Side (part k).h := ⟨4, (part k).AC, (part k).wAC, j⟩
abbrev r2 (k : Fin 3) (j : Fin 2) : Side (part k).h := ⟨2, (part k).R2, (part k).wR2, j⟩
abbrev r3 (k : Fin 3) : Side (part k).h := ⟨1, (part k).R3, (part k).wR3, 0⟩

section Part
variable (K : Dev nD × Cx → ℕ) (c : Dev nD) (k : Fin 3) (l : List Msg)

/-! The messages, one by one: what goes out, and what comes in. -/

theorem snd_0 : sndPay x c (k, 0) = reg c (s1 k 3) .lo (pcv .lo (S1C x k c 3)) := rfl
theorem snd_1 : sndPay x c (k, 1) = reg c (s1 k 3) .hi (pcv .hi (S1C x k c 3)) := rfl
theorem snd_2 : sndPay x c (k, 2) = reg c (s1 k 2) .full (pcv .full (S1C x k c 2)) := rfl
theorem snd_3 : sndPay x c (k, 3) = reg c (s1 k 1) .full (pcv .full (S1C x k c 1)) := rfl
theorem snd_4 : sndPay x c (k, 4) = reg c (s1 k 0) .full (pcv .full (S1C x k c 0)) := rfl
theorem snd_5 : sndPay x c (k, 5) = reg c (ac k 3) .lo (pcv .lo (A1 x k c 3)) := rfl
theorem snd_6 : sndPay x c (k, 6) = reg c (ac k 3) .hi (pcv .hi (A1 x k c 3)) := rfl
theorem snd_7 : sndPay x c (k, 7) = reg c (ac k 2) .full (pcv .full (A1 x k c 2)) := rfl
theorem snd_8 : sndPay x c (k, 8) = reg c (ac k 1) .lo (pcv .lo (A2 x k c 1)) := rfl
theorem snd_9 : sndPay x c (k, 9) = reg c (ac k 1) .hi (pcv .hi (A2 x k c 1)) := rfl
theorem rcv_0 : rcvPay x c (k, 0) = reg c (r1 k 3) .lo (pcv .lo (R1C x k c 3)) := rfl
theorem rcv_1 : rcvPay x c (k, 1) = reg c (r1 k 3) .hi (pcv .hi (R1C x k c 3)) := rfl
theorem rcv_2 : rcvPay x c (k, 2) = reg c (r1 k 2) .full (pcv .full (R1C x k c 2)) := rfl
theorem rcv_3 : rcvPay x c (k, 3) = reg c (r1 k 1) .full (pcv .full (R1C x k c 1)) := rfl
theorem rcv_4 : rcvPay x c (k, 4) = reg c (r1 k 0) .full (pcv .full (R1C x k c 0)) := rfl
theorem rcv_5 : rcvPay x c (k, 5) = reg c (r2 k 1) .lo (pcv .lo (R2C x k c 1)) := rfl
theorem rcv_6 : rcvPay x c (k, 6) = reg c (r2 k 1) .hi (pcv .hi (R2C x k c 1)) := rfl
theorem rcv_7 : rcvPay x c (k, 7) = reg c (r2 k 0) .full (pcv .full (R2C x k c 0)) := rfl
theorem rcv_8 : rcvPay x c (k, 8) = reg c (r3 k) .lo (pcv .lo (R3C x k c)) := rfl
theorem rcv_9 : rcvPay x c (k, 9) = reg c (r3 k) .hi (pcv .hi (R3C x k c)) := rfl

/-- Row 3 of the send buffer is staged and its two halves go out. -/
theorem ph_out3 (o : Fin 3 → ℕ) (hin) (ho : o = ![0, 512 * (nb (spn k 3) (nbS k 0 c)).val + off k, 0]) (d₀ d₁ : Dev nD) (h₀ : d₀ = peer (k, 0) c) (h₁ : d₁ = peer (k, 1) c)
    {α : Type} (f : PUnit → Prog (TpuEff nD τ sig (Elt F) Λ₀ .tc) α) (Q : α → sProp 𝕄) :
    iprop(env x K ∗ (any c (s1 k 3) .full ∗ M0 c (k, 0) ∗ M0 c (k, 1)) ∗ xP x c ∗ ow c (owesL c ((k, 0) :: (k, 1) :: l)))
      ⊢ iprop((((M1 c (k, 0) ∗ M1 c (k, 1)) ∗ xP x c ∗ ow c (owesL c l)) -∗ wpc c (f ⟨⟩) Q)
          -∗ wpc c (stage (part k) o hin (part k).S1 (part k).wS1 3 >>= fun _ => send k 0 d₀ >>= fun _ => send k 1 d₁ >>= f) Q) := by
  iintro ⟨#HE, ⟨Hs, Hm0, Hm1⟩, Hx, HO⟩ Hk
  iapply (wp_stage x c k (nb (spn k 3) (nbS k 0 c)) o hin ho (part k).S1 (part k).wS1 3 _ Q) $$ [Hx Hs]
  · iframe
  iintro ⟨Hx, Hs⟩
  ihave Hs := (show reg c (s1 k 3) .full (pcv .full (rows (x c) k (nb (spn k 3) (nbS k 0 c)))) ⊢ reg c (s1 k 3) .full (S1C x k c 3) from Entails.of_eq (congrArg _ (pcv_full _))) $$ Hs
  ihave Hs := (reg_split c (s1 k 3) _) $$ Hs
  icases Hs with ⟨Ha, Hb⟩
  iapply (wp_send x K c k 0 d₀ h₀ ((k, 1) :: l) _ Q) $$ [Hm0 Ha HO]
  · iframe HE Hm0 HO; rw [snd_0]; iexact Ha
  iintro ⟨Hm0, HO⟩
  iapply (wp_send x K c k 1 d₁ h₁ l _ Q) $$ [Hm1 Hb HO]
  · iframe HE Hm1 HO; rw [snd_1]; iexact Hb
  iintro ⟨Hm1, HO⟩
  iapply Hk
  iframe

/-- Another row of the send buffer is staged and goes out whole. -/
theorem ph_out (i : Fin 10) (j : Fin 4) (o : Fin 3 → ℕ) (hin) (ho : o = ![0, 512 * (nb (spn k j) (nbS k 0 c)).val + off k, 0]) (d : Dev nD) (hd : d = peer (k, i) c)
    (hs : reg c (s1 k j) .full (pcv .full (S1C x k c j)) ⊢ sndPay x c (k, i))
    {α : Type} (f : PUnit → Prog (TpuEff nD τ sig (Elt F) Λ₀ .tc) α) (Q : α → sProp 𝕄) :
    iprop(env x K ∗ (any c (s1 k j) .full ∗ M0 c (k, i)) ∗ xP x c ∗ ow c (owesL c ((k, i) :: l)))
      ⊢ iprop(((M1 c (k, i) ∗ xP x c ∗ ow c (owesL c l)) -∗ wpc c (f ⟨⟩) Q)
          -∗ wpc c (stage (part k) o hin (part k).S1 (part k).wS1 j >>= fun _ => send k i d >>= f) Q) := by
  iintro ⟨#HE, ⟨Hs, Hm0⟩, Hx, HO⟩ Hk
  iapply (wp_stage x c k (nb (spn k j) (nbS k 0 c)) o hin ho (part k).S1 (part k).wS1 j _ Q) $$ [Hx Hs]
  · iframe
  iintro ⟨Hx, Hs⟩
  iapply (wp_send x K c k i d hd l _ Q) $$ [Hm0 Hs HO]
  · iframe HE Hm0 HO; iapply hs; iexact Hs
  iintro ⟨Hm0, HO⟩
  iapply Hk
  iframe

/-- A row is kept. -/
theorem ph_keep (j : Fin 4) (o : Fin 3 → ℕ) (hin) (ho : o = ![0, 512 * (nb (spn k j) c).val + off k, 0])
    {α : Type} (f : PUnit → Prog (TpuEff nD τ sig (Elt F) Λ₀ .tc) α) (Q : α → sProp 𝕄) :
    iprop(any c (xk k j) .full ∗ xP x c)
      ⊢ iprop(((reg c (xk k j) .full (pcv .full (XKC x k c j)) ∗ xP x c) -∗ wpc c (f ⟨⟩) Q)
          -∗ wpc c (stage (part k) o hin (part k).XK (part k).wXK j >>= f) Q) := by
  iintro ⟨Hs, Hx⟩ Hk
  iapply (wp_stage x c k (nb (spn k j) c) o hin ho (part k).XK (part k).wXK j _ Q) $$ [Hx Hs]
  · iframe
  iintro ⟨Hx, Hs⟩
  iapply Hk
  iframe Hx
  iexact Hs

/-- A row is kept, as its two halves. -/
theorem ph_keep2 (j : Fin 4) (o : Fin 3 → ℕ) (hin) (ho : o = ![0, 512 * (nb (spn k j) c).val + off k, 0])
    {α : Type} (f : PUnit → Prog (TpuEff nD τ sig (Elt F) Λ₀ .tc) α) (Q : α → sProp 𝕄) :
    iprop(any c (xk k j) .full ∗ xP x c)
      ⊢ iprop((((reg c (xk k j) .lo (pcv .lo (XKC x k c j)) ∗ reg c (xk k j) .hi (pcv .hi (XKC x k c j))) ∗ xP x c) -∗ wpc c (f ⟨⟩) Q)
          -∗ wpc c (stage (part k) o hin (part k).XK (part k).wXK j >>= f) Q) := by
  iintro ⟨Hs, Hx⟩ Hk
  iapply (ph_keep x c k j o hin ho f Q) $$ [Hx Hs]
  · iframe
  iintro ⟨Hs, Hx⟩
  ihave Hs := (Entails.of_eq (congrArg (reg c (xk k j) .full) (pcv_full (XKC x k c j)))) $$ Hs
  ihave Hs := (reg_split c (xk k j) _) $$ Hs
  iapply Hk
  iframe

/-! ## Sums -/

/-- What is left of a first sum: the message is done, and the three pieces it used are free. -/
def D1 (i : Fin 10) (j : Fin 4) (p : Pc) : sProp 𝕄 := iprop(M2 c (k, i) ∗ any c (s1 k j) p ∗ any c (r1 k j) p ∗ any c (xk k j) p)

/-- A first sum: wait for a piece, and add the kept one to it. -/
theorem ph_sum1 (i : Fin 10) (j : Fin 4) (p : Pc) (hl : ∀ z ∈ l, (stg i).val < (stg z.2).val)
    (hs : sndPay x c (k, i) ⊢ any c (s1 k j) p) (hr : rcvPay x c (k, i) ⊢ reg c (r1 k j) p (pcv p (R1C x k c j)))
    {α : Type} (f : PUnit → Prog (TpuEff nD τ sig (Elt F) Λ₀ .tc) α) (Q : α → sProp 𝕄) :
    iprop(env x K ∗ (M1 c (k, i) ∗ reg c (xk k j) p (pcv p (XKC x k c j)) ∗ any c (ac k j) p) ∗ ow c (owesL c l))
      ⊢ iprop(((reg c (ac k j) p (pcv p (A1 x k c j)) ∗ D1 c k i j p ∗ ow c (owesL c l)) -∗ wpc c (f ⟨⟩) Q)
          -∗ wpc c (waits k i >>= fun _ => add2 (part k) j p >>= f) Q) := by
  iintro ⟨#HE, ⟨Hm, Hx, Ha⟩, HO⟩ Hk
  iapply (wp_waits x K c k i l hl _ Q) $$ [Hm HO]
  · iframe HE; iframe
  iintro ⟨Hm, Hs, Hr, HO⟩
  ihave Hs := hs $$ Hs
  ihave Hr := hr $$ Hr
  iapply (wp_add2 c (part k) j p (R1C x k c j) (XKC x k c j) _ Q) $$ [Hr Hx Ha]
  · iframe
  iintro ⟨Hr, Hx, Ha⟩
  ihave Hr := (any_intro c (r1 k j) p _) $$ Hr
  ihave Hx := (any_intro c (xk k j) p _) $$ Hx
  iapply Hk
  unfold D1
  iframe HO Hm Hs Hr Hx
  iexact Ha

/-- A first sum, sent on. -/
theorem ph_sum1_send (i i' : Fin 10) (j : Fin 4) (p : Pc) (hl : ∀ z ∈ (k, i') :: l, (stg i).val < (stg z.2).val)
    (hs : sndPay x c (k, i) ⊢ any c (s1 k j) p) (hr : rcvPay x c (k, i) ⊢ reg c (r1 k j) p (pcv p (R1C x k c j)))
    (hp : reg c (ac k j) p (pcv p (A1 x k c j)) ⊢ sndPay x c (k, i')) (sd : PG F)
    {α : Type} (f : PUnit → Prog (TpuEff nD τ sig (Elt F) Λ₀ .tc) α) (Q : α → sProp 𝕄)
    (hsd : iprop(env x K ∗ M0 c (k, i') ∗ sndPay x c (k, i') ∗ ow c (owesL c ((k, i') :: l)))
      ⊢ iprop(((M1 c (k, i') ∗ ow c (owesL c l)) -∗ wpc c (f ⟨⟩) Q) -∗ wpc c (sd >>= f) Q)) :
    iprop(env x K ∗ (M1 c (k, i) ∗ reg c (xk k j) p (pcv p (XKC x k c j)) ∗ any c (ac k j) p ∗ M0 c (k, i')) ∗ ow c (owesL c ((k, i') :: l)))
      ⊢ iprop(((M1 c (k, i') ∗ D1 c k i j p ∗ ow c (owesL c l)) -∗ wpc c (f ⟨⟩) Q)
          -∗ wpc c (waits k i >>= fun _ => add2 (part k) j p >>= fun _ => sd >>= f) Q) := by
  iintro ⟨#HE, ⟨Hm, Hx, Ha, Hm'⟩, HO⟩ Hk
  iapply (ph_sum1 x K c k ((k, i') :: l) i j p hl hs hr (fun _ => sd >>= f) Q) $$ [Hm Hx Ha HO]
  · iframe HE; iframe
  iintro ⟨Ha, HD, HO⟩
  ihave Ha := hp $$ Ha
  iapply hsd $$ [Hm' Ha HO]
  · iframe HE; iframe
  iintro ⟨Hm, HO⟩
  iapply Hk
  iframe

/-- What is left of a second sum. -/
def D2 (i i' : Fin 10) (p : Pc) : sProp 𝕄 := iprop(M2 c (k, i) ∗ any c (ac k 3) p ∗ any c (r1 k 1) p ∗ any c (xk k 1) p ∗ any c (r2 k 1) p)

/-- A second sum, sent on: wait for a piece, and add it to the two that are here. -/
theorem ph_sum2_send (i i' : Fin 10) (p : Pc) (hl : ∀ z ∈ (k, i') :: l, (stg i).val < (stg z.2).val) (d : Dev nD) (hd : d = peer (k, i') c)
    (hs : sndPay x c (k, i) ⊢ any c (ac k 3) p) (hr : rcvPay x c (k, i) ⊢ reg c (r2 k 1) p (pcv p (R2C x k c 1)))
    (hp : reg c (ac k 1) p (pcv p (A2 x k c 1)) ⊢ sndPay x c (k, i'))
    {α : Type} (f : PUnit → Prog (TpuEff nD τ sig (Elt F) Λ₀ .tc) α) (Q : α → sProp 𝕄) :
    iprop(env x K ∗ (M1 c (k, i) ∗ reg c (r1 k 1) p (pcv p (R1C x k c 1)) ∗ reg c (xk k 1) p (pcv p (XKC x k c 1)) ∗ any c (ac k 1) p ∗ M0 c (k, i')) ∗ ow c (owesL c ((k, i') :: l)))
      ⊢ iprop(((M1 c (k, i') ∗ D2 c k i i' p ∗ ow c (owesL c l)) -∗ wpc c (f ⟨⟩) Q)
          -∗ wpc c (waits k i >>= fun _ => add3 (part k) p >>= fun _ => send k i' d >>= f) Q) := by
  iintro ⟨#HE, ⟨Hm, Hr1, Hx, Ha, Hm'⟩, HO⟩ Hk
  iapply (wp_waits x K c k i _ hl _ Q) $$ [Hm HO]
  · iframe HE; iframe
  iintro ⟨Hm, Hs, Hr, HO⟩
  ihave Hs := hs $$ Hs
  ihave Hr := hr $$ Hr
  iapply (wp_add3 c (part k) p (R1C x k c 1) (XKC x k c 1) (R2C x k c 1) _ Q) $$ [Hr1 Hr Hx Ha]
  · iframe
  iintro ⟨Hr1, Hx, Hr, Ha⟩
  ihave Hr1 := (any_intro c (r1 k 1) p _) $$ Hr1
  ihave Hr := (any_intro c (r2 k 1) p _) $$ Hr
  ihave Hx := (any_intro c (xk k 1) p _) $$ Hx
  iapply (wp_send x K c k i' d hd l _ Q) $$ [Hm' Ha HO]
  · iframe HE Hm' HO; iapply hp; iexact Ha
  iintro ⟨Hm', HO⟩
  iapply Hk
  unfold D2
  iframe

/-- The first landed row 1 arrives whole and is used by halves. -/
theorem ph_land1 (hl : ∀ z ∈ l, (stg 3).val < (stg z.2).val)
    {α : Type} (f : PUnit → Prog (TpuEff nD τ sig (Elt F) Λ₀ .tc) α) (Q : α → sProp 𝕄) :
    iprop(env x K ∗ M1 c (k, 3) ∗ ow c (owesL c l))
      ⊢ iprop((((reg c (r1 k 1) .lo (pcv .lo (R1C x k c 1)) ∗ reg c (r1 k 1) .hi (pcv .hi (R1C x k c 1))) ∗ (M2 c (k, 3) ∗ any c (s1 k 1) .full) ∗ ow c (owesL c l)) -∗ wpc c (f ⟨⟩) Q)
          -∗ wpc c (waits k 3 >>= f) Q) := by
  iintro ⟨#HE, Hm, HO⟩ Hk
  iapply (wp_waits x K c k 3 l hl _ Q) $$ [Hm HO]
  · iframe HE; iframe
  iintro ⟨Hm, Hs, Hr, HO⟩
  ihave Hs := (Entails.of_eq (snd_3 x c k)) $$ Hs
  ihave Hr := (Entails.of_eq ((rcv_3 x c k).trans (congrArg _ (pcv_full (R1C x k c 1))))) $$ Hr
  ihave Hs := (any_intro c (s1 k 1) .full _) $$ Hs
  ihave Hr := (reg_split c (r1 k 1) _) $$ Hr
  iapply Hk
  iframe

/-- The second sum of row 0. -/
theorem ph_acc (hl : ∀ z ∈ l, (stg 7).val < (stg z.2).val)
    {α : Type} (f : PUnit → Prog (TpuEff nD τ sig (Elt F) Λ₀ .tc) α) (Q : α → sProp 𝕄) :
    iprop(env x K ∗ (M1 c (k, 7) ∗ reg c (ac k 0) .full (pcv .full (A1 x k c 0))) ∗ ow c (owesL c l))
      ⊢ iprop(((reg c (ac k 0) .full (pcv .full (A2 x k c 0)) ∗ (M2 c (k, 7) ∗ any c (ac k 2) .full ∗ any c (r2 k 0) .full) ∗ ow c (owesL c l)) -∗ wpc c (f ⟨⟩) Q)
          -∗ wpc c (waits7 k >>= fun _ => addAcc (part k) >>= f) Q) := by
  iintro ⟨#HE, ⟨Hm, Ha⟩, HO⟩ Hk
  iapply (wp_waits7 x K c k l hl _ Q) $$ [Hm HO]
  · iframe HE; iframe
  iintro ⟨Hm, Hs, Hr, HO⟩
  ihave Hs := (Entails.of_eq (snd_7 x c k)) $$ Hs
  ihave Hr := (Entails.of_eq (rcv_7 x c k)) $$ Hr
  ihave Hs := (any_intro c (ac k 2) .full _) $$ Hs
  iapply (wp_addAcc c (part k) (A1 x k c 0) (R2C x k c 0) _ Q) $$ [Ha Hr]
  · iframe Ha; iexact Hr
  iintro ⟨Ha, Hr⟩
  ihave Hr := (any_intro c (r2 k 0) .full _) $$ Hr
  iapply Hk
  iframe Hm Hs Hr HO
  iexact Ha

/-- The part's rows of the result. -/
def outR (k : Fin 3) (c : Dev nD) (g : GT F) : FVec F (P2 (part k).h 512) .f32 := outRows (part k) (A2 x k c 0) (R3C x k c) g

/-- The last step: the third landed row arrives by halves, and the part's rows of the result are stored. -/
theorem ph_out_rows (o : ℕ) (hin) (g : GT F) (f₀ : (cc0_stg2_0 : Ref sig .tc).ty.Contents (Elt F))
    {α : Type} (f : PUnit → Prog (TpuEff nD τ sig (Elt F) Λ₀ .tc) α) (Q : α → sProp 𝕄) :
    iprop(env x K ∗ (M1 c (k, 8) ∗ M1 c (k, 9) ∗ reg c (ac k 0) .full (pcv .full (A2 x k c 0))) ∗ (gP c g ∗ oP c f₀) ∗ ow c (owesL c []))
      ⊢ iprop((((M2 c (k, 8) ∗ M2 c (k, 9) ∗ any c (ac k 0) .full ∗ any c (ac k 1) .lo ∗ any c (ac k 1) .hi ∗ any c (r3 k) .full)
            ∗ (gP c g ∗ oP c (putRows f₀ o hin (outR x k c g))) ∗ ow c (owesL c [])) -∗ wpc c (f ⟨⟩) Q)
          -∗ wpc c (waits k 8 >>= fun _ => waits k 9 >>= fun _ => finish (part k) o hin >>= f) Q) := by
  iintro ⟨#HE, ⟨Hm8, Hm9, Ha⟩, ⟨Hg, Ho⟩, HO⟩ Hk
  iapply (wp_waits x K c k 8 [] (by simp) _ Q) $$ [Hm8 HO]
  · iframe HE; iframe
  iintro ⟨Hm8, Hs8, Hr8, HO⟩
  iapply (wp_waits x K c k 9 [] (by simp) _ Q) $$ [Hm9 HO]
  · iframe HE; iframe
  iintro ⟨Hm9, Hs9, Hr9, HO⟩
  ihave Hs8 := (Entails.of_eq (snd_8 x c k)) $$ Hs8
  ihave Hr8 := (Entails.of_eq (rcv_8 x c k)) $$ Hr8
  ihave Hs9 := (Entails.of_eq (snd_9 x c k)) $$ Hs9
  ihave Hr9 := (Entails.of_eq (rcv_9 x c k)) $$ Hr9
  ihave Hs8 := (any_intro c (ac k 1) .lo _) $$ Hs8
  ihave Hs9 := (any_intro c (ac k 1) .hi _) $$ Hs9
  ihave Hr := (reg_join c (r3 k) (R3C x k c)) $$ [Hr8 Hr9]
  · isplitl [Hr8]
    · iexact Hr8
    · iexact Hr9
  iapply (wp_finish c (part k) o hin (A2 x k c 0) (R3C x k c) g f₀ _ Q) $$ [Ha Hr Hg Ho]
  · iframe
  iintro ⟨Ha, Hr, Hg, Ho⟩
  ihave Ha := (any_intro c (ac k 0) .full _) $$ Ha
  ihave Hr := (any_intro c (r3 k) .full (R3C x k c)) $$ Hr
  iapply Hk
  iframe Hm8 Hm9 Hs8 Hs9 Ha Hr Hg HO
  iexact Ho

/-! The sums, message by message. -/

theorem ph_sum0 (hl : ∀ z ∈ (k, 5) :: l, (stg 0).val < (stg z.2).val) (d : Dev nD) (hd : d = peer (k, 5) c)
    {α : Type} (f : PUnit → Prog (TpuEff nD τ sig (Elt F) Λ₀ .tc) α) (Q : α → sProp 𝕄) :
    iprop(env x K ∗ (M1 c (k, 0) ∗ reg c (xk k 3) .lo (pcv .lo (XKC x k c 3)) ∗ any c (ac k 3) .lo ∗ M0 c (k, 5)) ∗ ow c (owesL c ((k, 5) :: l)))
      ⊢ iprop(((M1 c (k, 5) ∗ D1 c k 0 3 .lo ∗ ow c (owesL c l)) -∗ wpc c (f ⟨⟩) Q)
          -∗ wpc c (waits k 0 >>= fun _ => add2 (part k) 3 .lo >>= fun _ => send k 5 d >>= f) Q) :=
  ph_sum1_send x K c k l 0 5 3 .lo hl ((Entails.of_eq (snd_0 x c k)).trans (any_intro _ _ _ _)) (Entails.of_eq (rcv_0 x c k)) (Entails.of_eq (snd_5 x c k).symm) (send k 5 d) f Q
    (wp_send x K c k 5 d hd l f Q)

theorem ph_sum1' (hl : ∀ z ∈ (k, 6) :: l, (stg 1).val < (stg z.2).val) (d : Dev nD) (hd : d = peer (k, 6) c)
    {α : Type} (f : PUnit → Prog (TpuEff nD τ sig (Elt F) Λ₀ .tc) α) (Q : α → sProp 𝕄) :
    iprop(env x K ∗ (M1 c (k, 1) ∗ reg c (xk k 3) .hi (pcv .hi (XKC x k c 3)) ∗ any c (ac k 3) .hi ∗ M0 c (k, 6)) ∗ ow c (owesL c ((k, 6) :: l)))
      ⊢ iprop(((M1 c (k, 6) ∗ D1 c k 1 3 .hi ∗ ow c (owesL c l)) -∗ wpc c (f ⟨⟩) Q)
          -∗ wpc c (waits k 1 >>= fun _ => add2 (part k) 3 .hi >>= fun _ => send k 6 d >>= f) Q) :=
  ph_sum1_send x K c k l 1 6 3 .hi hl ((Entails.of_eq (snd_1 x c k)).trans (any_intro _ _ _ _)) (Entails.of_eq (rcv_1 x c k)) (Entails.of_eq (snd_6 x c k).symm) (send k 6 d) f Q
    (wp_send x K c k 6 d hd l f Q)

theorem ph_sum2 (hl : ∀ z ∈ (k, 7) :: l, (stg 2).val < (stg z.2).val) (d : Dev nD) (hd : d = peer (k, 7) c)
    {α : Type} (f : PUnit → Prog (TpuEff nD τ sig (Elt F) Λ₀ .tc) α) (Q : α → sProp 𝕄) :
    iprop(env x K ∗ (M1 c (k, 2) ∗ reg c (xk k 2) .full (pcv .full (XKC x k c 2)) ∗ any c (ac k 2) .full ∗ M0 c (k, 7)) ∗ ow c (owesL c ((k, 7) :: l)))
      ⊢ iprop(((M1 c (k, 7) ∗ D1 c k 2 2 .full ∗ ow c (owesL c l)) -∗ wpc c (f ⟨⟩) Q)
          -∗ wpc c (waits k 2 >>= fun _ => add2 (part k) 2 .full >>= fun _ => send7 k d >>= f) Q) :=
  ph_sum1_send x K c k l 2 7 2 .full hl ((Entails.of_eq (snd_2 x c k)).trans (any_intro _ _ _ _)) (Entails.of_eq (rcv_2 x c k)) (Entails.of_eq (snd_7 x c k).symm) (send7 k d) f Q
    (wp_send7 x K c k d hd l f Q)

theorem ph_sum4 (hl : ∀ z ∈ l, (stg 4).val < (stg z.2).val)
    {α : Type} (f : PUnit → Prog (TpuEff nD τ sig (Elt F) Λ₀ .tc) α) (Q : α → sProp 𝕄) :
    iprop(env x K ∗ (M1 c (k, 4) ∗ reg c (xk k 0) .full (pcv .full (XKC x k c 0)) ∗ any c (ac k 0) .full) ∗ ow c (owesL c l))
      ⊢ iprop(((reg c (ac k 0) .full (pcv .full (A1 x k c 0)) ∗ D1 c k 4 0 .full ∗ ow c (owesL c l)) -∗ wpc c (f ⟨⟩) Q)
          -∗ wpc c (waits k 4 >>= fun _ => add2 (part k) 0 .full >>= f) Q) :=
  ph_sum1 x K c k l 4 0 .full hl ((Entails.of_eq (snd_4 x c k)).trans (any_intro _ _ _ _)) (Entails.of_eq (rcv_4 x c k)) f Q

/-- Message 3 arrives, then message 5; their sum with the kept half goes out. -/
theorem ph_sum35 (hl : ∀ z ∈ (k, 8) :: l, (stg 5).val < (stg z.2).val) (d : Dev nD) (hd : d = peer (k, 8) c)
    {α : Type} (f : PUnit → Prog (TpuEff nD τ sig (Elt F) Λ₀ .tc) α) (Q : α → sProp 𝕄) :
    iprop(env x K ∗ (M1 c (k, 3) ∗ M1 c (k, 5) ∗ reg c (xk k 1) .lo (pcv .lo (XKC x k c 1)) ∗ any c (ac k 1) .lo ∗ M0 c (k, 8)) ∗ ow c (owesL c ((k, 8) :: l)))
      ⊢ iprop(((M1 c (k, 8) ∗ reg c (r1 k 1) .hi (pcv .hi (R1C x k c 1)) ∗ ((M2 c (k, 3) ∗ any c (s1 k 1) .full) ∗ D2 c k 5 8 .lo) ∗ ow c (owesL c l)) -∗ wpc c (f ⟨⟩) Q)
          -∗ wpc c (waits k 3 >>= fun _ => waits k 5 >>= fun _ => add3 (part k) .lo >>= fun _ => send k 8 d >>= f) Q) := by
  iintro ⟨#HE, ⟨Hm3, Hm5, Hx, Ha, Hm⟩, HO⟩ Hk
  iapply (ph_land1 x K c k ((k, 8) :: l) (fun z hz => Nat.lt_trans (show (stg 3).val < (stg 5).val by decide) (hl z hz)) _ Q) $$ [Hm3 HO]
  · iframe HE; iframe
  iintro ⟨⟨Hl, Hh⟩, HD, HO⟩
  iapply (ph_sum2_send x K c k l 5 8 .lo hl d hd ((Entails.of_eq (snd_5 x c k)).trans (any_intro _ _ _ _)) (Entails.of_eq (rcv_5 x c k)) (Entails.of_eq (snd_8 x c k).symm) f Q) $$ [Hm5 Hl Hx Ha Hm HO]
  · iframe HE; iframe
  iintro ⟨Hm, HD', HO⟩
  iapply Hk
  iframe

theorem ph_sum6 (hl : ∀ z ∈ (k, 9) :: l, (stg 6).val < (stg z.2).val) (d : Dev nD) (hd : d = peer (k, 9) c)
    {α : Type} (f : PUnit → Prog (TpuEff nD τ sig (Elt F) Λ₀ .tc) α) (Q : α → sProp 𝕄) :
    iprop(env x K ∗ (M1 c (k, 6) ∗ reg c (r1 k 1) .hi (pcv .hi (R1C x k c 1)) ∗ reg c (xk k 1) .hi (pcv .hi (XKC x k c 1)) ∗ any c (ac k 1) .hi ∗ M0 c (k, 9)) ∗ ow c (owesL c ((k, 9) :: l)))
      ⊢ iprop(((M1 c (k, 9) ∗ D2 c k 6 9 .hi ∗ ow c (owesL c l)) -∗ wpc c (f ⟨⟩) Q)
          -∗ wpc c (waits k 6 >>= fun _ => add3 (part k) .hi >>= fun _ => send k 9 d >>= f) Q) :=
  ph_sum2_send x K c k l 6 9 .hi hl d hd ((Entails.of_eq (snd_6 x c k)).trans (any_intro _ _ _ _)) (Entails.of_eq (rcv_6 x c k)) (Entails.of_eq (snd_9 x c k).symm) f Q

/-! ## A part's buffers and messages, at the start and at the end -/

def whole {n h : ℕ} (M : Memref sig .tc .vmem (A3 n h) .bf16) : sProp 𝕄 :=
  iprop(∃ X, owns (Ix := Unit) (Name := ℕ) (U := UU) (Lvl := ℕ) (c : Thread nD τ) M fullShare X)
/-- The part's six buffers. -/
def scr : sProp 𝕄 :=
  iprop(whole c (part k).S1 ∗ whole c (part k).R1 ∗ whole c (part k).XK ∗ whole c (part k).AC ∗ whole c (part k).R2 ∗ whole c (part k).R3)

/-- What a device keeps of them during the barrier. -/
def kept : sProp 𝕄 :=
  iprop((any c (s1 k 0) .full ∗ any c (s1 k 1) .full ∗ any c (s1 k 2) .full ∗ any c (s1 k 3) .full)
    ∗ (any c (xk k 0) .full ∗ any c (xk k 1) .full ∗ any c (xk k 2) .full ∗ any c (xk k 3) .full)
    ∗ any c (ac k 0) .full ∗ (any c (ac k 1) .lo ∗ any c (ac k 1) .hi) ∗ any c (ac k 2) .full ∗ any c (ac k 3) .lo ∗ any c (ac k 3) .hi)

theorem rows4 (M : Memref sig .tc .vmem (A3 4 (part k).h) .bf16) (W : M.IsWhole) :
    (bigSep Finset.univ fun j : Fin 4 => any (F := F) c ⟨4, M, W, j⟩ .full)
      = iprop(any c ⟨4, M, W, 0⟩ .full ∗ any c ⟨4, M, W, 1⟩ .full ∗ any c ⟨4, M, W, 2⟩ .full ∗ any c ⟨4, M, W, 3⟩ .full) :=
  bigSep_univ_eq_bigSepL [0, 1, 2, 3] (by decide) (by decide) _
theorem rows2 (M : Memref sig .tc .vmem (A3 2 (part k).h) .bf16) (W : M.IsWhole) :
    (bigSep Finset.univ fun j : Fin 2 => any (F := F) c ⟨2, M, W, j⟩ .full)
      = iprop(any c ⟨2, M, W, 0⟩ .full ∗ any c ⟨2, M, W, 1⟩ .full) :=
  bigSep_univ_eq_bigSepL [0, 1] (by decide) (by decide) _
theorem rows1 (M : Memref sig .tc .vmem (A3 1 (part k).h) .bf16) (W : M.IsWhole) :
    (bigSep Finset.univ fun j : Fin 1 => any (F := F) c ⟨1, M, W, j⟩ .full) = any c ⟨1, M, W, 0⟩ .full :=
  bigSep_univ_eq_bigSepL [0] (by decide) (by decide) _
/-- A family over a part's ten messages. -/
theorem msgs10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Where a part's messages land. -/
theorem lands_eq : (bigSep Finset.univ fun i : Fin 10 => land (F := F) c (k, i))
    = iprop(any c (r1 k 3) .lo ∗ any c (r1 k 3) .hi ∗ any c (r1 k 2) .full ∗ any c (r1 k 1) .full ∗ any c (r1 k 0) .full
      ∗ any c (r2 k 1) .lo ∗ any c (r2 k 1) .hi ∗ any c (r2 k 0) .full ∗ any c (r3 k) .lo ∗ any c (r3 k) .hi) := msgs10 _

/-- The buffers at the start: the landing places, and what is kept. -/
theorem scr_split : scr (F := F) c k ⊢ iprop((bigSep Finset.univ fun i : Fin 10 => land c (k, i)) ∗ kept c k) := by
  have w4 (M : Memref sig .tc .vmem (A3 4 (part k).h) .bf16) (W : M.IsWhole) :=
    show whole c M ⊢ _ from (rows_split (F := F) c M W).trans (Entails.of_eq (rows4 c k M W))
  have w2 := show whole c (part k).R2 ⊢ _ from (rows_split (F := F) c (part k).R2 (part k).wR2).trans (Entails.of_eq (rows2 c k _ _))
  have w1 := show whole c (part k).R3 ⊢ _ from (rows_split (F := F) c (part k).R3 (part k).wR3).trans (Entails.of_eq (rows1 c k _ _))
  rw [lands_eq]
  unfold scr kept
  iintro ⟨H1, H2, H3, H4, H5, H6⟩
  ihave H1 := (w4 (part k).S1 (part k).wS1) $$ H1
  ihave H2 := (w4 (part k).R1 (part k).wR1) $$ H2
  ihave H3 := (w4 (part k).XK (part k).wXK) $$ H3
  ihave H4 := (w4 (part k).AC (part k).wAC) $$ H4
  ihave H5 := w2 $$ H5
  ihave H6 := w1 $$ H6
  icases H2 with ⟨Ha, Hb, Hc, Hd⟩
  icases H4 with ⟨Ka, Kb, Kc, Kd⟩
  icases H5 with ⟨Qa, Qb⟩
  ihave Hd := (any_split c (r1 k 3)) $$ Hd
  ihave Kb := (any_split c (ac k 1)) $$ Kb
  ihave Kd := (any_split c (ac k 3)) $$ Kd
  ihave Qb := (any_split c (r2 k 1)) $$ Qb
  ihave H6 := (any_split c (r3 k)) $$ H6
  icases Hd with ⟨Hd, He⟩
  icases Qb with ⟨Qb, Qc⟩
  icases H6 with ⟨Ra, Rb⟩
  iframe

/-- What every phase leaves behind. -/
def left : sProp 𝕄 :=
  iprop(D1 c k 0 3 .lo ∗ D1 c k 1 3 .hi ∗ D1 c k 2 2 .full ∗ ((M2 c (k, 3) ∗ any c (s1 k 1) .full) ∗ D2 c k 5 8 .lo) ∗ D2 c k 6 9 .hi ∗ D1 c k 4 0 .full
    ∗ (M2 c (k, 7) ∗ any c (ac k 2) .full ∗ any c (r2 k 0) .full)
    ∗ (M2 c (k, 8) ∗ M2 c (k, 9) ∗ any c (ac k 0) .full ∗ any c (ac k 1) .lo ∗ any c (ac k 1) .hi ∗ any c (r3 k) .full))

/-- It is the part's buffers and its messages, done. -/
theorem left_join : left (F := F) c k ⊢ iprop(scr c k ∗ bigSep Finset.univ fun i : Fin 10 => M2 c (k, i)) := by
  have w4 (M : Memref sig .tc .vmem (A3 4 (part k).h) .bf16) (W : M.IsWhole) :=
    show _ ⊢ whole c M from (Entails.of_eq (rows4 (F := F) c k M W).symm).trans (rows_join c M W)
  have w2 := show _ ⊢ whole c (part k).R2 from (Entails.of_eq (rows2 (F := F) c k _ _).symm).trans (rows_join c (part k).R2 (part k).wR2)
  have w1 := show _ ⊢ whole c (part k).R3 from (Entails.of_eq (rows1 (F := F) c k _ _).symm).trans (rows_join c (part k).R3 (part k).wR3)
  rw [msgs10]
  unfold left D1 D2 scr
  iintro ⟨⟨m0, s3l, r3l, x3l⟩, ⟨m1, s3h, r3h, x3h⟩, ⟨m2, s2, r2', x2⟩, ⟨⟨m3, s1'⟩, ⟨m5, a3l, r1l, x1l, q1l⟩⟩, ⟨m6, a3h, r1h, x1h, q1h⟩, ⟨m4, s0, r0, x0⟩, ⟨m7, a2, q0⟩, ⟨m8, m9, a0, a1l, a1h, t⟩⟩
  ihave s3 := (any_join c (s1 k 3)) $$ [s3l s3h]; · iframe
  ihave r3' := (any_join c (r1 k 3)) $$ [r3l r3h]; · iframe
  ihave x3 := (any_join c (xk k 3)) $$ [x3l x3h]; · iframe
  ihave a3 := (any_join c (ac k 3)) $$ [a3l a3h]; · iframe
  ihave r1' := (any_join c (r1 k 1)) $$ [r1l r1h]; · iframe
  ihave x1 := (any_join c (xk k 1)) $$ [x1l x1h]; · iframe
  ihave q1 := (any_join c (r2 k 1)) $$ [q1l q1h]; · iframe
  ihave a1 := (any_join c (ac k 1)) $$ [a1l a1h]; · iframe
  ihave S := (w4 (part k).S1 (part k).wS1) $$ [s0 s1' s2 s3]; · iframe
  ihave R := (w4 (part k).R1 (part k).wR1) $$ [r0 r1' r2' r3']; · iframe
  ihave X := (w4 (part k).XK (part k).wXK) $$ [x0 x1 x2 x3]; · iframe
  ihave A := (w4 (part k).AC (part k).wAC) $$ [a0 a1 a2 a3]; · iframe
  ihave V := w2 $$ [q0 q1]; · iframe
  ihave T := w1 $$ t
  iframe

end Part

end Cert.KProof
end
-- ==== Proof.Body.lean ====
/-
The body of one device: every phase of the three parts, in the order of the program.
-/
module

public import proofs.«01_k».proof.Proof.Phases

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the messages go, and which rows are staged -/

set_option maxRecDepth 4000
theorem dv1 (c : Dev nD) : (⟨k0_dev1 c, k0_dev1_lt c⟩ : Dev nD) = nb 1 c := by revert c; decide
theorem dv2 (c : Dev nD) : (⟨k0_dev2 c, k0_dev2_lt c⟩ : Dev nD) = nb 3 c := by revert c; decide
theorem dv3 (c : Dev nD) : (⟨k0_dev3 c, k0_dev3_lt c⟩ : Dev nD) = nb 4 c := by revert c; decide
theorem dv4 (c : Dev nD) : (⟨k0_dev4 c, k0_dev4_lt c⟩ : Dev nD) = peer (0, 0) c := by revert c; decide
theorem dv5 (c : Dev nD) : (⟨k0_dev5 c, k0_dev5_lt c⟩ : Dev nD) = peer (0, 1) c := by revert c; decide
theorem dv6 (c : Dev nD) : (⟨k0_dev6 c, k0_dev6_lt c⟩ : Dev nD) = peer (1, 0) c := by revert c; decide
theorem dv7 (c : Dev nD) : (⟨k0_dev7 c, k0_dev7_lt c⟩ : Dev nD) = peer (1, 1) c := by revert c; decide
theorem dv8 (c : Dev nD) : (⟨k0_dev8 c, k0_dev8_lt c⟩ : Dev nD) = peer (2, 0) c := by revert c; decide
theorem dv9 (c : Dev nD) : (⟨k0_dev9 c, k0_dev9_lt c⟩ : Dev nD) = peer (2, 1) c := by revert c; decide
theorem dv10 (c : Dev nD) : (⟨k0_dev10 c, k0_dev10_lt c⟩ : Dev nD) = peer (0, 2) c := by revert c; decide
theorem dv11 (c : Dev nD) : (⟨k0_dev11 c, k0_dev11_lt c⟩ : Dev nD) = peer (1, 2) c := by revert c; decide
theorem dv12 (c : Dev nD) : (⟨k0_dev12 c, k0_dev12_lt c⟩ : Dev nD) = peer (2, 2) c := by revert c; decide
theorem dv13 (c : Dev nD) : (⟨k0_dev13 c, k0_dev13_lt c⟩ : Dev nD) = peer (0, 3) c := by revert c; decide
theorem dv14 (c : Dev nD) : (⟨k0_dev14 c, k0_dev14_lt c⟩ : Dev nD) = peer (1, 3) c := by revert c; decide
theorem dv15 (c : Dev nD) : (⟨k0_dev15 c, k0_dev15_lt c⟩ : Dev nD) = peer (2, 3) c := by revert c; decide
theorem dv16 (c : Dev nD) : (⟨k0_dev16 c, k0_dev16_lt c⟩ : Dev nD) = peer (0, 4) c := by revert c; decide
theorem dv17 (c : Dev nD) : (⟨k0_dev17 c, k0_dev17_lt c⟩ : Dev nD) = peer (1, 4) c := by revert c; decide
theorem dv18 (c : Dev nD) : (⟨k0_dev18 c, k0_dev18_lt c⟩ : Dev nD) = peer (2, 4) c := by revert c; decide
theorem dv19 (c : Dev nD) : (⟨k0_dev19 c, k0_dev19_lt c⟩ : Dev nD) = peer (0, 5) c := by revert c; decide
theorem dv20 (c : Dev nD) : (⟨k0_dev20 c, k0_dev20_lt c⟩ : Dev nD) = peer (1, 5) c := by revert c; decide
theorem dv21 (c : Dev nD) : (⟨k0_dev21 c, k0_dev21_lt c⟩ : Dev nD) = peer (2, 5) c := by revert c; decide
theorem dv22 (c : Dev nD) : (⟨k0_dev22 c, k0_dev22_lt c⟩ : Dev nD) = peer (0, 6) c := by revert c; decide
theorem dv23 (c : Dev nD) : (⟨k0_dev23 c, k0_dev23_lt c⟩ : Dev nD) = peer (1, 6) c := by revert c; decide
theorem dv24 (c : Dev nD) : (⟨k0_dev24 c, k0_dev24_lt c⟩ : Dev nD) = peer (2, 6) c := by revert c; decide
theorem dv25 (c : Dev nD) : (⟨k0_dev25 c, k0_dev25_lt c⟩ : Dev nD) = peer (0, 7) c := by revert c; decide
theorem dv26 (c : Dev nD) : (⟨k0_dev26 c, k0_dev26_lt c⟩ : Dev nD) = peer (1, 7) c := by revert c; decide
theorem dv27 (c : Dev nD) : (⟨k0_dev27 c, k0_dev27_lt c⟩ : Dev nD) = peer (2, 7) c := by revert c; decide
theorem dv28 (c : Dev nD) : (⟨k0_dev28 c, k0_dev28_lt c⟩ : Dev nD) = peer (0, 8) c := by revert c; decide
theorem dv29 (c : Dev nD) : (⟨k0_dev29 c, k0_dev29_lt c⟩ : Dev nD) = peer (1, 8) c := by revert c; decide
theorem dv30 (c : Dev nD) : (⟨k0_dev30 c, k0_dev30_lt c⟩ : Dev nD) = peer (2, 8) c := by revert c; decide
theorem dv31 (c : Dev nD) : (⟨k0_dev31 c, k0_dev31_lt c⟩ : Dev nD) = peer (0, 9) c := by revert c; decide
theorem dv32 (c : Dev nD) : (⟨k0_dev32 c, k0_dev32_lt c⟩ : Dev nD) = peer (1, 9) c := by revert c; decide
theorem dv33 (c : Dev nD) : (⟨k0_dev33 c, k0_dev33_lt c⟩ : Dev nD) = peer (2, 9) c := by revert c; decide
theorem os03 (c : Dev nD) : k0_off1 c 4#32 2#32 0#32 = ![0, 512 * (nb (spn 0 3) (nbS 0 0 c)).val + off 0, 0] := by revert c; decide
theorem ok03 (c : Dev nD) : k0_off3 c 2#32 0#32 = ![0, 512 * (nb (spn 0 3) c).val + off 0, 0] := by revert c; decide
theorem os02 (c : Dev nD) : k0_off1 c 4#32 3#32 0#32 = ![0, 512 * (nb (spn 0 2) (nbS 0 0 c)).val + off 0, 0] := by revert c; decide
theorem ok02 (c : Dev nD) : k0_off3 c 3#32 0#32 = ![0, 512 * (nb (spn 0 2) c).val + off 0, 0] := by revert c; decide
theorem os01 (c : Dev nD) : k0_off1 c 4#32 1#32 0#32 = ![0, 512 * (nb (spn 0 1) (nbS 0 0 c)).val + off 0, 0] := by revert c; decide
theorem ok01 (c : Dev nD) : k0_off3 c 1#32 0#32 = ![0, 512 * (nb (spn 0 1) c).val + off 0, 0] := by revert c; decide
theorem os00 (c : Dev nD) : k0_off1 c 4#32 0#32 0#32 = ![0, 512 * (nb (spn 0 0) (nbS 0 0 c)).val + off 0, 0] := by revert c; decide
theorem ok00 (c : Dev nD) : k0_off3 c 0#32 0#32 = ![0, 512 * (nb (spn 0 0) c).val + off 0, 0] := by revert c; decide
theorem os13 (c : Dev nD) : k0_off1 c 1#32 7#32 176#32 = ![0, 512 * (nb (spn 1 3) (nbS 1 0 c)).val + off 1, 0] := by revert c; decide
theorem ok13 (c : Dev nD) : k0_off3 c 7#32 176#32 = ![0, 512 * (nb (spn 1 3) c).val + off 1, 0] := by revert c; decide
theorem os12 (c : Dev nD) : k0_off1 c 1#32 4#32 176#32 = ![0, 512 * (nb (spn 1 2) (nbS 1 0 c)).val + off 1, 0] := by revert c; decide
theorem ok12 (c : Dev nD) : k0_off3 c 4#32 176#32 = ![0, 512 * (nb (spn 1 2) c).val + off 1, 0] := by revert c; decide
theorem os11 (c : Dev nD) : k0_off1 c 1#32 3#32 176#32 = ![0, 512 * (nb (spn 1 1) (nbS 1 0 c)).val + off 1, 0] := by revert c; decide
theorem ok11 (c : Dev nD) : k0_off3 c 3#32 176#32 = ![0, 512 * (nb (spn 1 1) c).val + off 1, 0] := by revert c; decide
theorem os10 (c : Dev nD) : k0_off1 c 1#32 0#32 176#32 = ![0, 512 * (nb (spn 1 0) (nbS 1 0 c)).val + off 1, 0] := by revert c; decide
theorem ok10 (c : Dev nD) : k0_off3 c 0#32 176#32 = ![0, 512 * (nb (spn 1 0) c).val + off 1, 0] := by revert c; decide
theorem os23 (c : Dev nD) : k0_off2 c 5#32 = ![0, 512 * (nb (spn 2 3) (nbS 2 0 c)).val + off 2, 0] := by revert c; decide
theorem ok23 (c : Dev nD) : k0_off4 c 5#32 = ![0, 512 * (nb (spn 2 3) c).val + off 2, 0] := by revert c; decide
theorem os22 (c : Dev nD) : k0_off2 c 1#32 = ![0, 512 * (nb (spn 2 2) (nbS 2 0 c)).val + off 2, 0] := by revert c; decide
theorem ok22 (c : Dev nD) : k0_off4 c 1#32 = ![0, 512 * (nb (spn 2 2) c).val + off 2, 0] := by revert c; decide
theorem os21 (c : Dev nD) : k0_off2 c 4#32 = ![0, 512 * (nb (spn 2 1) (nbS 2 0 c)).val + off 2, 0] := by revert c; decide
theorem ok21 (c : Dev nD) : k0_off4 c 4#32 = ![0, 512 * (nb (spn 2 1) c).val + off 2, 0] := by revert c; decide
theorem os20 (c : Dev nD) : k0_off2 c 0#32 = ![0, 512 * (nb (spn 2 0) (nbS 2 0 c)).val + off 2, 0] := by revert c; decide
theorem ok20 (c : Dev nD) : k0_off4 c 0#32 = ![0, 512 * (nb (spn 2 0) c).val + off 2, 0] := by revert c; decide

variable (x : Dev nD → XT F)

/-! ## Start and end of a part -/

/-- A message's tokens, before the barrier has handed over the place it lands in. -/
def pre (c : Dev nD) (y : Msg) : sProp 𝕄 :=
  iprop(atPos ER (sndCell c y) 0 ∅ 0 ∗ atPos ER (rcvCell c y) 0 ∅ 0 ∗ cred (tallyAt (rcvCell c y) () (amt y))
    ∗ dutyTok ER (sndCell c y) 0 0 ∗ dutyTok ER (rcvCell (peer y c) y) 0 0)
theorem M0_intro (c : Dev nD) (y : Msg) : iprop(pre (F := F) c y ∗ land (peer y c) y) ⊢ M0 c y := by
  unfold pre M0
  iintro ⟨⟨H1, H2, H3, H4, H5⟩, H6⟩
  iframe

/-- A part after the barrier, in the order its phases use it. -/
def ready (c : Dev nD) (k : Fin 3) : sProp 𝕄 :=
  iprop((any c (s1 k 3) .full ∗ M0 c (k, 0) ∗ M0 c (k, 1)) ∗ (any c (s1 k 2) .full ∗ M0 c (k, 2)) ∗ (any c (s1 k 1) .full ∗ M0 c (k, 3)) ∗ (any c (s1 k 0) .full ∗ M0 c (k, 4))
    ∗ any c (xk k 3) .full ∗ any c (xk k 2) .full ∗ any c (xk k 1) .full ∗ any c (xk k 0) .full
    ∗ (any c (ac k 3) .lo ∗ M0 c (k, 5)) ∗ (any c (ac k 3) .hi ∗ M0 c (k, 6)) ∗ (any c (ac k 2) .full ∗ M0 c (k, 7))
    ∗ (any c (ac k 1) .lo ∗ M0 c (k, 8)) ∗ (any c (ac k 1) .hi ∗ M0 c (k, 9)) ∗ any c (ac k 0) .full)
theorem ready_intro (c : Dev nD) (k : Fin 3) : iprop((bigSep Finset.univ fun i : Fin 10 => M0 (F := F) c (k, i)) ∗ kept c k) ⊢ ready c k := by
  rw [msgs10]
  unfold kept ready
  iintro ⟨⟨m0, m1, m2, m3, m4, m5, m6, m7, m8, m9⟩, ⟨s0, sa, s2, s3⟩, ⟨x0, xa, x2, x3⟩, a0, ⟨al, ah⟩, a2, a3l, a3h⟩
  iframe

/-- A family over the messages, part by part. -/
theorem by_part (Φ : Msg → sProp 𝕄) : bigSep Finset.univ Φ
    = iprop((bigSep Finset.univ fun i : Fin 10 => Φ (0, i)) ∗ (bigSep Finset.univ fun i : Fin 10 => Φ (1, i)) ∗ bigSep Finset.univ fun i : Fin 10 => Φ (2, i)) :=
  (bigSep_univ_prod Φ).trans (bigSep_univ_eq_bigSepL [0, 1, 2] (by decide) (by decide) _)

/-- The last phase of the last part ends the program. -/
theorem ph_end (K : Dev nD × Cx → ℕ) (c : Dev nD) (k : Fin 3) (o : ℕ) (hin) (g : GT F) (f₀ : (cc0_stg2_0 : Ref sig .tc).ty.Contents (Elt F)) (Q : PUnit → sProp 𝕄) :
    iprop(env x K ∗ (M1 c (k, 8) ∗ M1 c (k, 9) ∗ reg c (ac k 0) .full (pcv .full (A2 x k c 0))) ∗ (gP c g ∗ oP c f₀) ∗ ow c (owesL c []))
      ⊢ iprop((((M2 c (k, 8) ∗ M2 c (k, 9) ∗ any c (ac k 0) .full ∗ any c (ac k 1) .lo ∗ any c (ac k 1) .hi ∗ any c (r3 k) .full)
            ∗ (gP c g ∗ oP c (putRows f₀ o hin (outR x k c g))) ∗ ow c (owesL c [])) -∗ Q ⟨⟩)
          -∗ wpc c (waits k 8 >>= fun _ => waits k 9 >>= fun _ => finish (part k) o hin) Q) := by
  have h := bind_pure (finish (F := F) (part k) o hin)
  rw [← h]
  have hr : iprop(|={Set.univ}=> Q ⟨⟩) ⊢ wpc c (pure ⟨⟩) Q := Entails.of_eq (wp_ret ..).symm
  iintro H Hk
  iapply (ph_out_rows x K c k o hin g f₀ pure Q) $$ H
  iintro H
  iapply hr
  imodintro
  iapply Hk
  iexact H

/-- The result buffer after the three parts have stored their rows. -/
def outF (c : Dev nD) (g : GT F) (f₀ : (cc0_stg2_0 : Ref sig .tc).ty.Contents (Elt F)) : (cc0_stg2_0 : Ref sig .tc).ty.Contents (Elt F) :=
  putRows (h := (part 2).h) (putRows (h := (part 1).h) (putRows (h := (part 0).h) f₀ 0 inb_S512x512_S176x512_0_0 (outR x 0 c g)) 176 inb_S512x512_S176x512_176_0 (outR x 1 c g))
    352 inb_S512x512_S160x512_352_0 (outR x 2 c g)

/-- What the body starts with, apart from the buffers and the invariants. -/
def tokens (c : Dev nD) : sProp 𝕄 :=
  iprop((atPos ER (barCell c) 0 ∅ 0 ∗ cred (tallyAt (barCell c) () 3)
      ∗ (dutyTok ER (barCell (nb 1 c)) 0 0 ∗ dutyTok ER (barCell (nb 3 c)) 0 1 ∗ dutyTok ER (barCell (nb 4 c)) 0 2))
    ∗ bigSep Finset.univ fun y : Msg => pre c y)
/-- The exchange buffers of all parts. -/
def scrs (c : Dev nD) : sProp 𝕄 := iprop(scr c 0 ∗ scr c 1 ∗ scr c 2)
/-- All semaphores of the exchange at zero. -/
def zeros (c : Dev nD) : sProp 𝕄 := iprop(semVal (barCell c) 0 ∗ bigSep Finset.univ fun y : Msg => M2 c y)

/-- The barrier, with everything around it regrouped. -/
theorem ph_barrier (K : Dev nD × Cx → ℕ) (c d₁ d₂ d₃ : Dev nD) (h₁ : d₁ = nb 1 c) (h₂ : d₂ = nb 3 c) (h₃ : d₃ = nb 4 c)
    {α : Type} (f : PUnit → Prog (TpuEff nD τ sig (Elt F) Λ₀ .tc) α) (Q : α → sProp 𝕄) :
    iprop(env x K ∗ (tokens c ∗ scrs c) ∗ ow c (O₀ c))
      ⊢ iprop(((semVal (barCell c) 0 ∗ (ready c 0 ∗ ready c 1 ∗ ready c 2) ∗ ow c (owesL c ord)) -∗ wpc c (f ⟨⟩) Q) -∗ wpc c (barrier d₁ d₂ d₃ >>= f) Q) := by
  unfold tokens scrs
  iintro ⟨#HE, ⟨⟨⟨Ha, Hc, Ht⟩, Hp⟩, ⟨S0, S1, S2⟩⟩, HO⟩ Hk
  ihave S0 := (scr_split c 0) $$ S0
  ihave S1 := (scr_split c 1) $$ S1
  ihave S2 := (scr_split c 2) $$ S2
  icases S0 with ⟨L0, K0⟩
  icases S1 with ⟨L1, K1⟩
  icases S2 with ⟨L2, K2⟩
  ihave Hl := (Entails.of_eq (by_part (fun y : Msg => land (F := F) c y)).symm) $$ [L0 L1 L2]
  · iframe
  iapply (wp_barrier x K c d₁ d₂ d₃ h₁ h₂ h₃ f Q) $$ [Ha Hc Ht Hl HO]
  · iframe HE; unfold B0; iframe
  unfold B1
  iintro ⟨⟨Hz, Hl⟩, HO⟩
  ihave HM := ((Entails.of_eq (bigSep_sep' Finset.univ (fun y : Msg => pre (F := F) c y) (fun y : Msg => land (peer y c) y)).symm).trans (sep_mono_of fun y _ => M0_intro c y)) $$ [Hp Hl]
  · iframe
  ihave HM := (Entails.of_eq (by_part (fun y : Msg => M0 (F := F) c y))) $$ HM
  icases HM with ⟨L0, L1, L2⟩
  iapply Hk
  iframe Hz HO
  isplitl [L0 K0]
  · iapply (ready_intro c 0); iframe
  isplitl [L1 K1]
  · iapply (ready_intro c 1); iframe
  iapply (ready_intro c 2); iframe

/-! ## The body -/

set_option maxHeartbeats 4000000 in
set_option maxRecDepth 10000 in
/-- The whole body of device `c`. -/
theorem sound_prog (K : Dev nD × Cx → ℕ) (c : Dev nD) (g : GT F) (f₀ : (cc0_stg2_0 : Ref sig .tc).ty.Contents (Elt F)) (Q : PUnit → sProp 𝕄) :
    iprop(env x K ∗ (tokens c ∗ scrs c) ∗ (xP x c ∗ gP c g ∗ oP c f₀) ∗ ow c (O₀ c))
      ⊢ iprop((((scrs c ∗ zeros c) ∗ (xP x c ∗ gP c g ∗ oP c (outF x c g f₀)) ∗ ow c 0) -∗ Q ⟨⟩) -∗ wpc c (prog c) Q) := by
  unfold prog
  iintro ⟨#HE, HT, ⟨Hx, Hg, Ho⟩, HO⟩ Hk
  iapply (ph_barrier x K c _ _ _ (dv1 c) (dv2 c) (dv3 c) _ Q) $$ [HT HO]
  · iframe HE; iframe
  unfold ready
  iintro ⟨Hz, ⟨⟨A0, A2, A3, A4, AX3, AX2, AX1, AX0, AT5, AT6, AT7, AT8, AT9, AC0⟩, ⟨B0, B2, B3, B4, BX3, BX2, BX1, BX0, BT5, BT6, BT7, BT8, BT9, BC0⟩,
    ⟨C0, C2, C3, C4, CX3, CX2, CX1, CX0, CT5, CT6, CT7, CT8, CT9, CC0⟩⟩, HO⟩
  iapply (ph_out3 x K c 0 (ord.drop 2) _ _ (os03 c) _ _ (dv4 c) (dv5 c) _ Q) $$ [A0 Hx HO]
  · iframe HE HO; iframe
  iintro ⟨⟨A0, A1⟩, Hx, HO⟩
  iapply (ph_out3 x K c 1 (ord.drop 4) _ _ (os13 c) _ _ (dv6 c) (dv7 c) _ Q) $$ [B0 Hx HO]
  · iframe HE HO; iframe
  iintro ⟨⟨B0, B1⟩, Hx, HO⟩
  iapply (ph_out3 x K c 2 (ord.drop 6) _ _ (os23 c) _ _ (dv8 c) (dv9 c) _ Q) $$ [C0 Hx HO]
  · iframe HE HO; iframe
  iintro ⟨⟨C0, C1⟩, Hx, HO⟩
  iapply (ph_out x K c 0 (ord.drop 7) 2 2 _ _ (os02 c) _ (dv10 c) (Entails.of_eq (snd_2 x c 0).symm) _ Q) $$ [A2 Hx HO]
  · iframe HE HO; iframe
  iintro ⟨A2, Hx, HO⟩
  iapply (ph_out x K c 1 (ord.drop 8) 2 2 _ _ (os12 c) _ (dv11 c) (Entails.of_eq (snd_2 x c 1).symm) _ Q) $$ [B2 Hx HO]
  · iframe HE HO; iframe
  iintro ⟨B2, Hx, HO⟩
  iapply (ph_out x K c 2 (ord.drop 9) 2 2 _ _ (os22 c) _ (dv12 c) (Entails.of_eq (snd_2 x c 2).symm) _ Q) $$ [C2 Hx HO]
  · iframe HE HO; iframe
  iintro ⟨C2, Hx, HO⟩
  iapply (ph_out x K c 0 (ord.drop 10) 3 1 _ _ (os01 c) _ (dv13 c) (Entails.of_eq (snd_3 x c 0).symm) _ Q) $$ [A3 Hx HO]
  · iframe HE HO; iframe
  iintro ⟨A3, Hx, HO⟩
  iapply (ph_out x K c 1 (ord.drop 11) 3 1 _ _ (os11 c) _ (dv14 c) (Entails.of_eq (snd_3 x c 1).symm) _ Q) $$ [B3 Hx HO]
  · iframe HE HO; iframe
  iintro ⟨B3, Hx, HO⟩
  iapply (ph_out x K c 2 (ord.drop 12) 3 1 _ _ (os21 c) _ (dv15 c) (Entails.of_eq (snd_3 x c 2).symm) _ Q) $$ [C3 Hx HO]
  · iframe HE HO; iframe
  iintro ⟨C3, Hx, HO⟩
  iapply (ph_out x K c 0 (ord.drop 13) 4 0 _ _ (os00 c) _ (dv16 c) (Entails.of_eq (snd_4 x c 0).symm) _ Q) $$ [A4 Hx HO]
  · iframe HE HO; iframe
  iintro ⟨A4, Hx, HO⟩
  iapply (ph_out x K c 1 (ord.drop 14) 4 0 _ _ (os10 c) _ (dv17 c) (Entails.of_eq (snd_4 x c 1).symm) _ Q) $$ [B4 Hx HO]
  · iframe HE HO; iframe
  iintro ⟨B4, Hx, HO⟩
  iapply (ph_out x K c 2 (ord.drop 15) 4 0 _ _ (os20 c) _ (dv18 c) (Entails.of_eq (snd_4 x c 2).symm) _ Q) $$ [C4 Hx HO]
  · iframe HE HO; iframe
  iintro ⟨C4, Hx, HO⟩
  iapply (ph_keep2 x c 0 3 _ _ (ok03 c) _ Q) $$ [AX3 Hx]
  · iframe
  iintro ⟨⟨AX3l, AX3h⟩, Hx⟩
  iapply (ph_keep2 x c 1 3 _ _ (ok13 c) _ Q) $$ [BX3 Hx]
  · iframe
  iintro ⟨⟨BX3l, BX3h⟩, Hx⟩
  iapply (ph_keep2 x c 2 3 _ _ (ok23 c) _ Q) $$ [CX3 Hx]
  · iframe
  iintro ⟨⟨CX3l, CX3h⟩, Hx⟩
  iapply (ph_keep x c 0 2 _ _ (ok02 c) _ Q) $$ [AX2 Hx]
  · iframe
  iintro ⟨AX2, Hx⟩
  iapply (ph_keep x c 1 2 _ _ (ok12 c) _ Q) $$ [BX2 Hx]
  · iframe
  iintro ⟨BX2, Hx⟩
  iapply (ph_keep x c 2 2 _ _ (ok22 c) _ Q) $$ [CX2 Hx]
  · iframe
  iintro ⟨CX2, Hx⟩
  iapply (ph_keep2 x c 0 1 _ _ (ok01 c) _ Q) $$ [AX1 Hx]
  · iframe
  iintro ⟨⟨AX1l, AX1h⟩, Hx⟩
  iapply (ph_keep2 x c 1 1 _ _ (ok11 c) _ Q) $$ [BX1 Hx]
  · iframe
  iintro ⟨⟨BX1l, BX1h⟩, Hx⟩
  iapply (ph_keep2 x c 2 1 _ _ (ok21 c) _ Q) $$ [CX1 Hx]
  · iframe
  iintro ⟨⟨CX1l, CX1h⟩, Hx⟩
  iapply (ph_keep x c 0 0 _ _ (ok00 c) _ Q) $$ [AX0 Hx]
  · iframe
  iintro ⟨AX0, Hx⟩
  iapply (ph_keep x c 1 0 _ _ (ok10 c) _ Q) $$ [BX0 Hx]
  · iframe
  iintro ⟨BX0, Hx⟩
  iapply (ph_keep x c 2 0 _ _ (ok20 c) _ Q) $$ [CX0 Hx]
  · iframe
  iintro ⟨CX0, Hx⟩
  iapply (ph_sum0 x K c 0 (ord.drop 16) (by decide) _ (dv19 c) _ Q) $$ [A0 AX3l AT5 HO]
  · iframe HE HO; iframe
  iintro ⟨A5, AD0, HO⟩
  iapply (ph_sum0 x K c 1 (ord.drop 17) (by decide) _ (dv20 c) _ Q) $$ [B0 BX3l BT5 HO]
  · iframe HE HO; iframe
  iintro ⟨B5, BD0, HO⟩
  iapply (ph_sum0 x K c 2 (ord.drop 18) (by decide) _ (dv21 c) _ Q) $$ [C0 CX3l CT5 HO]
  · iframe HE HO; iframe
  iintro ⟨C5, CD0, HO⟩
  iapply (ph_sum1' x K c 0 (ord.drop 19) (by decide) _ (dv22 c) _ Q) $$ [A1 AX3h AT6 HO]
  · iframe HE HO; iframe
  iintro ⟨A6, AD1, HO⟩
  iapply (ph_sum1' x K c 1 (ord.drop 20) (by decide) _ (dv23 c) _ Q) $$ [B1 BX3h BT6 HO]
  · iframe HE HO; iframe
  iintro ⟨B6, BD1, HO⟩
  iapply (ph_sum1' x K c 2 (ord.drop 21) (by decide) _ (dv24 c) _ Q) $$ [C1 CX3h CT6 HO]
  · iframe HE HO; iframe
  iintro ⟨C6, CD1, HO⟩
  iapply (ph_sum2 x K c 0 (ord.drop 22) (by decide) _ (dv25 c) _ Q) $$ [A2 AX2 AT7 HO]
  · iframe HE HO; iframe
  iintro ⟨A7, AD2, HO⟩
  iapply (ph_sum2 x K c 1 (ord.drop 23) (by decide) _ (dv26 c) _ Q) $$ [B2 BX2 BT7 HO]
  · iframe HE HO; iframe
  iintro ⟨B7, BD2, HO⟩
  iapply (ph_sum2 x K c 2 (ord.drop 24) (by decide) _ (dv27 c) _ Q) $$ [C2 CX2 CT7 HO]
  · iframe HE HO; iframe
  iintro ⟨C7, CD2, HO⟩
  iapply (ph_sum35 x K c 0 (ord.drop 25) (by decide) _ (dv28 c) _ Q) $$ [A3 A5 AX1l AT8 HO]
  · iframe HE HO; iframe
  iintro ⟨A8, AR, AD3, HO⟩
  iapply (ph_sum35 x K c 1 (ord.drop 26) (by decide) _ (dv29 c) _ Q) $$ [B3 B5 BX1l BT8 HO]
  · iframe HE HO; iframe
  iintro ⟨B8, BR, BD3, HO⟩
  iapply (ph_sum35 x K c 2 (ord.drop 27) (by decide) _ (dv30 c) _ Q) $$ [C3 C5 CX1l CT8 HO]
  · iframe HE HO; iframe
  iintro ⟨C8, CR, CD3, HO⟩
  iapply (ph_sum6 x K c 0 (ord.drop 28) (by decide) _ (dv31 c) _ Q) $$ [A6 AR AX1h AT9 HO]
  · iframe HE HO; iframe
  iintro ⟨A9, AD6, HO⟩
  iapply (ph_sum6 x K c 1 (ord.drop 29) (by decide) _ (dv32 c) _ Q) $$ [B6 BR BX1h BT9 HO]
  · iframe HE HO; iframe
  iintro ⟨B9, BD6, HO⟩
  iapply (ph_sum6 x K c 2 (ord.drop 30) (by decide) _ (dv33 c) _ Q) $$ [C6 CR CX1h CT9 HO]
  · iframe HE HO; iframe
  iintro ⟨C9, CD6, HO⟩
  iapply (ph_sum4 x K c 0 [] (by decide) _ Q) $$ [A4 AX0 AC0 HO]
  · iframe HE HO; iframe
  iintro ⟨AC0, AD4, HO⟩
  iapply (ph_sum4 x K c 1 [] (by decide) _ Q) $$ [B4 BX0 BC0 HO]
  · iframe HE HO; iframe
  iintro ⟨BC0, BD4, HO⟩
  iapply (ph_sum4 x K c 2 [] (by decide) _ Q) $$ [C4 CX0 CC0 HO]
  · iframe HE HO; iframe
  iintro ⟨CC0, CD4, HO⟩
  iapply (ph_acc x K c 0 [] (by decide) _ Q) $$ [A7 AC0 HO]
  · iframe HE; iframe
  iintro ⟨AC0, AD7, HO⟩
  iapply (ph_acc x K c 1 [] (by decide) _ Q) $$ [B7 BC0 HO]
  · iframe HE; iframe
  iintro ⟨BC0, BD7, HO⟩
  iapply (ph_acc x K c 2 [] (by decide) _ Q) $$ [C7 CC0 HO]
  · iframe HE; iframe
  iintro ⟨CC0, CD7, HO⟩
  iapply (ph_out_rows x K c 0 _ _ g _ _ Q) $$ [A8 A9 AC0 Hg Ho HO]
  · iframe HE; iframe
  iintro ⟨AD8, ⟨Hg, Ho⟩, HO⟩
  iapply (ph_out_rows x K c 1 _ _ g _ _ Q) $$ [B8 B9 BC0 Hg Ho HO]
  · iframe HE; iframe
  iintro ⟨BD8, ⟨Hg, Ho⟩, HO⟩
  iapply (ph_end x K c 2 _ _ g _ Q) $$ [C8 C9 CC0 Hg Ho HO]
  · iframe HE; iframe
  iintro ⟨CD8, ⟨Hg, Ho⟩, HO⟩
  ihave A := (left_join c 0) $$ [AD0 AD1 AD2 AD3 AD4 AD6 AD7 AD8]
  · unfold left; iframe
  icases A with ⟨AS, AM⟩
  ihave B := (left_join c 1) $$ [BD0 BD1 BD2 BD3 BD4 BD6 BD7 BD8]
  · unfold left; iframe
  icases B with ⟨BS, BM⟩
  ihave C := (left_join c 2) $$ [CD0 CD1 CD2 CD3 CD4 CD6 CD7 CD8]
  · unfold left; iframe
  icases C with ⟨CS, CM⟩
  ihave HM := (Entails.of_eq (by_part (fun y : Msg => M2 (F := F) c y)).symm) $$ [AM BM CM]
  · iframe
  iapply Hk
  unfold scrs zeros
  iframe Hx Hg AS BS CS Hz HM HO
  iexact Ho

end Cert.KProof
end
-- ==== Proof.Setup.lean ====
/-
The kernel's windows, its result buffer, and the body run from what the launch hands it to what it gives back.
-/
module

public import proofs.«01_k».proof.Proof.Body
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The result buffer -/

/-- Row `r`, column `j` of a part's rows. -/
def ix2 {h : ℕ} (r : Fin h) (j : Fin 512) : (P2 h 512).Idx :=
  fun a => match a with
  | 0 => (r : Fin h)
  | 1 => (j : Fin 512)

theorem putRows_apply {h : ℕ} (f : (cc0_stg2_0 : Ref sig .tc).ty.Contents (Elt F)) (o : ℕ) (hin) (v : FVec F (P2 h 512) .f32) (i : S512x512.Idx) :
    putRows f o hin v i = if hr : o ≤ (i 0).val ∧ (i 0).val < o + h then v (ix2 ⟨(i 0).val - o, by omega⟩ (i 1)) else f i := by
  unfold putRows
  by_cases hr : o ≤ (i 0).val ∧ (i 0).val < o + h
  · rw [dif_pos hr]
    have e : i = (oM.access (Rect.unit (s := S512x512) ![o, 0] (P2 h 512).size hin)).emb (ix2 ⟨(i 0).val - o, by omega⟩ (i 1)) := by
      funext a
      fin_cases a
      · exact Fin.ext (show (i 0).val = o + 1 * ((i 0).val - o) by omega)
      · exact Fin.ext (show (i 1).val = 0 + 1 * (i 1).val by omega)
    conv_lhs => rw [e]
    exact View.write_emb_of_mem _ _ (Finset.mem_univ _)
  · rw [dif_neg hr]
    refine View.write_of_not_mem _ _ _ fun hm => ?_
    obtain ⟨z, hz⟩ : ∃ z, (oM.access (Rect.unit (s := S512x512) ![o, 0] (P2 h 512).size hin)).emb z = i := by
      simpa [View.setOn] using hm
    subst hz
    have hz : ((z 0 : Fin h)).val < h := (z 0 : Fin h).isLt
    refine hr ⟨show o ≤ o + 1 * (z 0 : Fin h).val by omega, show o + 1 * (z 0 : Fin h).val < o + h by omega⟩

/-- Three parts' rows stored one after the other, element by element. -/
theorem three_apply {h₀ h₁ h₂ : ℕ} (e₀ : h₀ = 176) (e₁ : h₁ = 176) (e₂ : h₂ = 160) (hin₀ hin₁ hin₂) (v₀ : FVec F (P2 h₀ 512) .f32) (v₁ : FVec F (P2 h₁ 512) .f32)
    (v₂ : FVec F (P2 h₂ 512) .f32) (f : (cc0_stg2_0 : Ref sig .tc).ty.Contents (Elt F)) (i : S512x512.Idx) (hi : (i 0).val < 512) :
    putRows (putRows (putRows f 0 hin₀ v₀) 176 hin₁ v₁) 352 hin₂ v₂ i
      = if a₂ : 352 ≤ (i 0).val then v₂ (ix2 ⟨(i 0).val - 352, by omega⟩ (i 1))
        else if a₁ : 176 ≤ (i 0).val then v₁ (ix2 ⟨(i 0).val - 176, by omega⟩ (i 1)) else v₀ (ix2 ⟨(i 0).val, by omega⟩ (i 1)) := by
  rw [putRows_apply]
  by_cases a₂ : 352 ≤ (i 0).val
  · rw [dif_pos a₂, dif_pos ⟨a₂, by omega⟩]
  · rw [dif_neg a₂, dif_neg (fun h => a₂ h.1), putRows_apply]
    by_cases a₁ : 176 ≤ (i 0).val
    · rw [dif_pos a₁, dif_pos ⟨a₁, by omega⟩]
    · rw [dif_neg a₁, dif_neg (fun h => a₁ h.1), putRows_apply, dif_pos ⟨Nat.zero_le _, by omega⟩]
      rfl

section Res
variable (x : Dev nD → XT F) (c : Dev nD) (g : GT F)

/-- The result buffer after the three parts, element by element. -/
theorem outF_apply (f : (cc0_stg2_0 : Ref sig .tc).ty.Contents (Elt F)) (i : S512x512.Idx) (hi : (i 0).val < 512) :
    outF x c g f i
      = if a₂ : 352 ≤ (i 0).val then outR x 2 c g (ix2 ⟨(i 0).val - 352, show _ < 160 by omega⟩ (i 1))
        else if a₁ : 176 ≤ (i 0).val then outR x 1 c g (ix2 ⟨(i 0).val - 176, show _ < 176 by omega⟩ (i 1))
        else outR x 0 c g (ix2 ⟨(i 0).val, show _ < 176 by omega⟩ (i 1)) :=
  three_apply rfl rfl rfl _ _ _ _ _ _ f i hi

/-- The three parts fill the result buffer, whatever it held. -/
theorem outF_indep (f f' : (cc0_stg2_0 : Ref sig .tc).ty.Contents (Elt F)) : outF x c g f = outF x c g f' :=
  funext fun i => (outF_apply x c g f i (i 0).isLt).trans (outF_apply x c g f' i (i 0).isLt).symm

/-- The result of device `c`. -/
def outV : (cc0_stg2_0 : Ref sig .tc).ty.Contents (Elt F) := outF x c g (fun _ => Classical.arbitrary _)
theorem outF_eq (f : (cc0_stg2_0 : Ref sig .tc).ty.Contents (Elt F)) : outF x c g f = outV x c g := outF_indep x c g _ _
end Res

/-! ## The exchange buffers, as the launch hands them over -/

theorem whole_iff (c : Dev nD) (b : Ref sig .tc) :
    (iprop(∃ X, owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) :=
  congrArg _ (funext fun X => owns_whole (c : Thread nD τ) b fullShare X)

theorem scrs_eq (c : Dev nD) : (Pipeline.scopedRest (Ix := Unit) (Name := ℕ) (U := UU) (Lvl := ℕ) (Val := Elt F) spec0 c : sProp 𝕄) ⊢ scrs c := by
  rw [scopedRest0_eq]
  simp only [← whole_iff]
  iintro ⟨H0, H1, H2, H3, H4, H5, H6, H7, H8, H9, H10, H11, H12, H13, H14, H15, H16, H17⟩
  unfold scrs scr whole
  isplitl [H0 H1 H2 H3 H4 H5]
  · iframe H0 H1 H2 H3 H4 H5
  isplitl [H6 H7 H8 H9 H10 H11]
  · iframe H6 H7 H8 H9 H10 H11
  iframe H12 H13 H14 H15 H16 H17

theorem scrs_back (c : Dev nD) : scrs c ⊢ (Pipeline.scopedRest (Ix := Unit) (Name := ℕ) (U := UU) (Lvl := ℕ) (Val := Elt F) spec0 c : sProp 𝕄) := by
  rw [scopedRest0_eq]
  simp only [← whole_iff]
  unfold scrs scr whole
  iintro ⟨⟨H0, H1, H2, H3, H4, H5⟩, ⟨H6, H7, H8, H9, H10, H11⟩, ⟨H12, H13, H14, H15, H16, H17⟩⟩
  iframe H0 H1 H2 H3 H4 H5 H6 H7 H8 H9 H10 H11 H12 H13 H14 H15 H16
  iexact H17

/-! ## The pipeline's data -/

variable (m : (ℓ : Loc nD τ sig) → Buf (Elt F) ℓ) (ρ : Dev nD → PrngReg)

/-- The memory at launch. -/
def st0 : MemSt nD τ sig (Elt F) := ⟨m, fun _ => 0, ρ⟩

/-- A device's staged input and scale. -/
def xin (c : Dev nD) : XT F := (win0_0.blk (0 : Fin 1)).view.read (Elt F) (m ((c : Thread nD τ).loc main_arg0))
def gin (c : Dev nD) : GT F := (win0_1.blk (0 : Fin 1)).view.read (Elt F) (m ((c : Thread nD τ).loc main_arg1))
/-- Its result. -/
def outAt (c : Dev nD) : (cc0_stg2_0 : Ref sig .tc).ty.Contents (Elt F) := outV (xin m) c (gin m c)

/-- What a body starts from: the cells, the levels, and its tokens. -/
def start (c : Dev nD) : sProp 𝕄 := iprop((∃ K, recs (xin m) K) ∗ levAts L lv ∗ tokens c)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xin m c
    | ⟨1, _⟩ => gin m c
    | ⟨2, _⟩ => outAt m c
  Φ t := match t with
    | ⟨0, _⟩ => iprop(start m c ∗ scrs c)
    | ⟨_ + 1, _⟩ => iprop(scrs c ∗ zeros c)
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem before_x (c : Dev nD) (d) : (dats m ρ 0 c).before (0 : Fin 3) t0_0 d = xin m c := by
  unfold Dat.before
  rw [if_pos (fetch_0 t0_0)]
  rfl
theorem before_g (c : Dev nD) (d) : (dats m ρ 0 c).before (1 : Fin 3) t0_0 d = gin m c := by
  unfold Dat.before
  rw [if_pos (fetch_1 t0_0)]
  rfl

/-! ## The body -/

set_option maxRecDepth 4000 in
def bodyPre (c : Dev nD) : sProp 𝕄 :=
  iprop((start m c ∗ scrs c) ∗ (dats m ρ 0 c).owesAt () t0_0.castSucc
    ∗ (∃ d, ((c : Thread nD τ).loc cc0_stg0_0) ↦{fullShare} ((dats m ρ 0 c).before (0 : Fin 3) t0_0 d))
    ∗ (∃ d, ((c : Thread nD τ).loc cc0_stg1_0) ↦{fullShare} ((dats m ρ 0 c).before (1 : Fin 3) t0_0 d))
    ∗ (∃ d, ((c : Thread nD τ).loc cc0_stg2_0) ↦{fullShare} ((dats m ρ 0 c).before (2 : Fin 3) t0_0 d)))
set_option maxRecDepth 4000 in
def bodyPost (c : Dev nD) : sProp 𝕄 :=
  iprop((scrs c ∗ zeros c) ∗ (dats m ρ 0 c).owesAt () t0_0.succ
    ∗ (((c : Thread nD τ).loc cc0_stg0_0) ↦{fullShare} xin m c)
    ∗ (((c : Thread nD τ).loc cc0_stg1_0) ↦{fullShare} gin m c)
    ∗ (((c : Thread nD τ).loc cc0_stg2_0) ↦{fullShare} outAt m c))

theorem owes_in (c : Dev nD) : (dats m ρ 0 c).owesAt () t0_0.castSucc ⊢ ow c (O₀ c) := by
  unfold ow Dat.owesAt Pipeline.owesWithin
  rw [show (dats m ρ 0 c).owed t0_0.castSucc = O₀ c from rfl]
  iintro ⟨%W, %_, HO⟩
  iexists W
  iexact HO
theorem owes_out (c : Dev nD) : ow c 0 ⊢ (dats m ρ 0 c).owesAt () t0_0.succ := by
  unfold ow Dat.owesAt Pipeline.owesWithin
  rw [show (dats m ρ 0 c).owed t0_0.succ = 0 from rfl]
  iintro ⟨%W, HO⟩
  iexists W
  isplitr
  · ipureintro; exact fun _ _ => Or.inl trivial
  iexact HO

theorem wp_dev (c : Dev nD) (p : Dev nD → PG F) (Q : PUnit → sProp 𝕄) : wpc c (p c) Q ⊢ wpc c (.op .deviceId p) Q :=
  Entails.of_eq (wp_deviceId 𝒱₀ (c : Thread nD τ) none Set.univ (k := p) (Q := Q)).symm

theorem sound_body (c : Dev nD) : bodyPre m ρ c ⊢ wpc c (.op .deviceId fun d => prog d) (fun _ => bodyPost m ρ c) := by
  have hd := wp_dev c prog (fun _ => bodyPost m ρ c)
  unfold bodyPre start
  iintro ⟨⟨⟨⟨%K, #HR⟩, #HL, HT⟩, HS⟩, HO, ⟨%d0, Hx⟩, ⟨%d1, Hg⟩, ⟨%d2, Ho⟩⟩
  ihave HO := (owes_in m ρ c) $$ HO
  ihave Hx := (Entails.of_eq (congrArg (fun X => (((c : Thread nD τ).loc cc0_stg0_0) ↦{fullShare} X : sProp 𝕄)) (before_x m ρ c d0))) $$ Hx
  ihave Hg := (Entails.of_eq (congrArg (fun X => (((c : Thread nD τ).loc cc0_stg1_0) ↦{fullShare} X : sProp 𝕄)) (before_g m ρ c d1))) $$ Hg
  iapply hd
  iapply (sound_prog (xin m) K c (gin m c) ((dats m ρ 0 c).before (2 : Fin 3) t0_0 d2) (fun _ => bodyPost m ρ c)) $$ [HT HS HO Hx Hg Ho]
  · unfold env
    iframe HR HL HT HS
    unfold xP gP oP
    iframe Hx Hg Ho
    iexact HO
  unfold xP gP oP bodyPost outAt
  rw [outF_eq]
  iintro ⟨HSZ, ⟨Hx, Hg, Ho⟩, HO⟩
  ihave HO := (owes_out m ρ c) $$ HO
  iframe HSZ HO Hx Hg
  iexact Ho

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  have e0 : ∀ X, (owns (Ix := Unit) (Name := ℕ) (U := UU) (Lvl := ℕ) (c : Thread nD τ) (Memref.whole cc0_stg0_0) fullShare X : sProp 𝕄) = (((c : Thread nD τ).loc cc0_stg0_0) ↦{fullShare} X) :=
    fun X => owns_whole (c : Thread nD τ) cc0_stg0_0 fullShare X
  have e1 : ∀ X, (owns (Ix := Unit) (Name := ℕ) (U := UU) (Lvl := ℕ) (c : Thread nD τ) (Memref.whole cc0_stg1_0) fullShare X : sProp 𝕄) = (((c : Thread nD τ).loc cc0_stg1_0) ↦{fullShare} X) :=
    fun X => owns_whole (c : Thread nD τ) cc0_stg1_0 fullShare X
  have e2 : ∀ X, (owns (Ix := Unit) (Name := ℕ) (U := UU) (Lvl := ℕ) (c : Thread nD τ) (Memref.whole cc0_stg2_0) fullShare X : sProp 𝕄) = (((c : Thread nD τ).loc cc0_stg2_0) ↦{fullShare} X) :=
    fun X => owns_whole (c : Thread nD τ) cc0_stg2_0 fullShare X
  have h := sound_body m ρ c
  rw [← body_eq] at h
  unfold bodyPre bodyPost at h
  simp only [← e0, ← e1, ← e2] at h
  exact h

end Cert.KProof
end
-- ==== Proof.Launch.lean ====
/-
The launch: the cells and tokens minted, dealt to the devices, and the whole machine run.
-/
module

public import proofs.«01_k».proof.Proof.Setup
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores -/

theorem kd_osem (b : Bool × Msg) : kd (osem b) = if b.1 then .rcv b.2 else .snd b.2 := by
  obtain ⟨b, y⟩ := b
  cases b
  · exact kd_snd y
  · exact kd_rcv y
theorem kd_csem (a : Cx) : kd (csem a) = match a with | none => .bar | some b => if b.1 then .rcv b.2 else .snd b.2 := by
  cases a with
  | none => exact kd_bar
  | some b => exact kd_osem b

theorem csem_inj : Function.Injective csem := by
  intro a b h
  have h' := congrArg kd h
  rw [kd_csem, kd_csem] at h'
  rcases a with _ | ⟨_ | _, y⟩ <;> rcases b with _ | ⟨_ | _, z⟩ <;> simp at h' ⊢ <;> exact h'

theorem cell_inj : Function.Injective cell := by
  rintro ⟨c, a⟩ ⟨d, b⟩ h
  have h1 : c = d := congrArg (fun g : GSem nD τ sig => g.1.1) h
  have h2 : a = b := csem_inj (congrArg Prod.snd h)
  rw [h1, h2]

set_option maxRecDepth 100000 in
theorem osem_scoped (b : Bool × Msg) : (osem b).isScoped .tc = true := by revert b; decide

theorem stage_kd : ∀ (w : Fin cfg0.W) (s), kd (.dma ((cfg0.spec w).sem s)) = .no := by decide

theorem ownSemFacts : Pipeline.OwnSemFacts cfg0.spec osem where
  isScoped := osem_scoped
  inj a b h := Option.some_injective _ (csem_inj (a₁ := some a) (a₂ := some b) h)
  disj b w s h := by
    have h' := congrArg kd h
    rw [kd_osem, stage_kd] at h'
    split at h' <;> cases h'

/-- A family over a device's exchange semaphores: the barrier, the departures, the arrivals. -/
theorem by_cx (Φ : Cx → sProp 𝕄) : bigSep Finset.univ Φ
    = iprop(Φ none ∗ (bigSep Finset.univ fun y : Msg => Φ (some (false, y))) ∗ bigSep Finset.univ fun y : Msg => Φ (some (true, y))) := by
  rw [bigSep_univ_equiv (Equiv.optionEquivSumPUnit.{0, 0} (Bool × Msg)).symm Φ, bigSep_univ_sum, bigSep_univ_prod]
  rw [bigSep_univ_eq_bigSepL [false, true] (by decide) (by decide) _, bigSep_univ_eq_bigSepL [PUnit.unit] (by decide) (by decide) _]
  exact BI.equiv_iff.mp ⟨BI.sep_comm, BI.sep_comm⟩
theorem by_two (Φ : Bool × Msg → sProp 𝕄) : bigSep Finset.univ Φ
    = iprop((bigSep Finset.univ fun y : Msg => Φ (false, y)) ∗ bigSep Finset.univ fun y : Msg => Φ (true, y)) := by
  rw [bigSep_univ_prod]
  exact bigSep_univ_eq_bigSepL [false, true] (by decide) (by decide) _

theorem by_dirs (Φ : Fin 3 → sProp 𝕄) : bigSep Finset.univ Φ = iprop(Φ 0 ∗ Φ 1 ∗ Φ 2) := bigSep_univ_eq_bigSepL [0, 1, 2] (by decide) (by decide) Φ

/-! ## What is minted -/

def allCells : Finset (GSem nD τ sig) := Finset.univ.map ⟨cell, cell_inj⟩

/-- A duty of a device's own cells: a direction of its barrier, or a message's departure or arrival. -/
abbrev Tx : Type := Fin 3 ⊕ (Bool × Msg)
def tokOf (a : Dev nD × Tx) : GSem nD τ sig × ℕ × Fin 3 :=
  match a.2 with
  | .inl d => (cell (a.1, none), 0, d)
  | .inr b => (cell (a.1, some b), 0, 0)
theorem tokOf_inj : Function.Injective tokOf := by
  rintro ⟨c, a⟩ ⟨d, b⟩ h
  rcases a with a | a <;> rcases b with b | b
  · have h1 := cell_inj (congrArg Prod.fst h)
    have h2 : a = b := congrArg (fun t : GSem nD τ sig × ℕ × Fin 3 => t.2.2) h
    have h3 : c = d := (Prod.mk.inj h1).1
    rw [h2, h3]
  · exact absurd (Prod.mk.inj (cell_inj (congrArg Prod.fst h))).2 (fun h => by cases h)
  · exact absurd (Prod.mk.inj (cell_inj (congrArg Prod.fst h))).2 (fun h => by cases h)
  · have h1 := Prod.mk.inj (cell_inj (congrArg Prod.fst h))
    have h2 : c = d := h1.1
    have h3 : a = b := Option.some_injective _ h1.2
    rw [h2, h3]
def allToks : Finset (GSem nD τ sig × ℕ × Fin 3) := Finset.univ.map ⟨tokOf, tokOf_inj⟩

/-- The ghost state at launch. -/
def u₀ : UU := (initOf (Pipeline.cells cfgs cellOf_inj) (Pipeline.launchToks cfgs cellOf_inj), initOf allCells allToks)

variable (m : (ℓ : Loc nD τ sig) → Buf (Elt F) ℓ) (ρ : Dev nD → PrngReg)

/-- The tokens of a device's own cells. -/
def toks (c : Dev nD) : sProp 𝕄 :=
  iprop((bigSep Finset.univ fun d : Fin 3 => dutyTok ER (barCell c) 0 d)
    ∗ (bigSep Finset.univ fun y : Msg => dutyTok ER (sndCell c y) 0 0) ∗ bigSep Finset.univ fun y : Msg => dutyTok ER (rcvCell c y) 0 0)
/-- The tokens of the duties a device pays. -/
def payToks (c : Dev nD) : sProp 𝕄 :=
  iprop((bigSep Finset.univ fun d : Fin 3 => dutyTok ER (barCell (nb (bm d) c)) 0 d)
    ∗ (bigSep Finset.univ fun y : Msg => dutyTok ER (sndCell c y) 0 0) ∗ bigSep Finset.univ fun y : Msg => dutyTok ER (rcvCell (peer y c) y) 0 0)

/-- What the launch deals device `c`. -/
def G (c : Dev nD) : sProp 𝕄 :=
  iprop((bigSep Finset.univ fun k : Cx => roundState ER (Rd (xin m)) (cell (c, k)) 0)
    ∗ (bigSep Finset.univ fun k : Cx => iprop(atPos ER (cell (c, k)) 0 ∅ 0 ∗ reached ER (cell (c, k)) 0)) ∗ toks c)
/-- A device's positions and the tokens it pays with. -/
def linear (c : Dev nD) : sProp 𝕄 := iprop((bigSep Finset.univ fun k : Cx => atPos ER (cell (c, k)) 0 ∅ 0) ∗ payToks c)
/-- What the global step makes of it. -/
def G' (c : Dev nD) : sProp 𝕄 := iprop(∃ K, recs (xin m) K ∗ linear c)

theorem toks_eq : bigSep allToks (fun t => (dutyTok ER t.1 t.2.1 t.2.2 : sProp 𝕄)) = bigSep Finset.univ fun c : Dev nD => toks c := by
  unfold allToks
  rw [bigSep_map, bigSep_univ_prod]
  refine bigSep_congr fun c _ => ?_
  rw [bigSep_univ_sum, by_two]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cx => Φ (cell (c, k)) := by
    unfold allCells; rw [bigSep_map, bigSep_univ_prod]; rfl
  iintro HX
  imod (Rounds.fund ER (Rd (xin m)) allCells allToks) $$ HX with ⟨Hst, Hr, Hat, Htok⟩
  imodintro
  ihave Hst := (Entails.of_eq (hX fun g => roundState ER (Rd (xin m)) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]
  · isplitl [Hat] <;> iassumption
  iexact Htok

/-! ## The cells allocated -/

/-- The kernel's own semaphores are the messages'; -/
theorem ownSems0_eq (c : Dev nD) : (Pipeline.ownSems0 (Ix := Unit) (Name := ℕ) (U := UU) (Lvl := ℕ) (Val := Elt F) (τ := τ) osem c : sProp 𝕄)
    = bigSep Finset.univ fun y : Msg => M2 c y := by
  unfold Pipeline.ownSems0 M2
  rw [by_two, bigSep_sep']
  rfl
set_option maxRecDepth 10000 in
/-- the barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (cell (c, k)) 0 : sProp 𝕄) := by
  rw [ownSems0_eq, unscopedSems0_eq, by_cx]
  unfold M2
  rw [bigSep_sep']
  iintro ⟨⟨HS, HV⟩, HB⟩
  isplitl [HB]; · iexact HB
  isplitl [HS]
  · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cx => iprop(∃ κ : ℕ, cellInv ER (Rd (xin m)) κ (cell (c, k))))
          ∗ (bigSep Finset.univ fun k : Cx => iprop(atPos ER (cell (c, k)) 0 ∅ 0 ∗ reached ER (cell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (cell (c, k)) 0) ∗ bigSep Finset.univ fun k : Cx => roundState ER (Rd (xin m)) (cell (c, k)) 0)
      ⊢ (|={Set.univ}=> bigSep Finset.univ fun k : Cx => iprop(∃ κ : ℕ, cellInv ER (Rd (xin m)) κ (cell (c, k))) : sProp 𝕄) from by
        rw [← bigSep_sep']
        exact (bigSep_mono fun k _ => (Rounds.body_intro ER (Rd (xin m)) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- A neighbour map is its own inverse. -/
def nbE (k : Fin 8) : Dev nD ≃ Dev nD := ⟨nb k, nb k, nb_nb k, nb_nb k⟩

/-- A family over the devices and a finite type, each of whose members is moved by an involution of the devices. -/
theorem around {I : Type} [Fintype I] [DecidableEq I] (e : I → Fin 8) (Φ : Dev nD → I → sProp 𝕄) :
    (bigSep Finset.univ fun c : Dev nD => bigSep Finset.univ fun i : I => Φ c i) = bigSep Finset.univ fun c : Dev nD => bigSep Finset.univ fun i : I => Φ (nb (e i) c) i := by
  have hc : ∀ Ψ : Dev nD → I → sProp 𝕄, (bigSep Finset.univ fun c : Dev nD => bigSep Finset.univ fun i : I => Ψ c i) = bigSep Finset.univ fun i : I => bigSep Finset.univ fun c : Dev nD => Ψ c i :=
    fun Ψ => by
      rw [← bigSep_univ_prod (fun a : Dev nD × I => Ψ a.1 a.2), ← bigSep_univ_prod (fun a : I × Dev nD => Ψ a.2 a.1)]
      exact bigSep_univ_equiv (Equiv.prodComm I (Dev nD)) (fun a : Dev nD × I => Ψ a.1 a.2)
  rw [hc, hc fun c i => Φ (nb (e i) c) i]
  exact bigSep_congr fun i _ => bigSep_univ_equiv (nbE (e i)) (fun c => Φ c i)

theorem toks_around : (bigSep Finset.univ fun c : Dev nD => (toks c : sProp 𝕄)) ⊢ bigSep Finset.univ fun c : Dev nD => payToks c := by
  unfold toks payToks
  rw [bigSep_sep', bigSep_sep', bigSep_sep', bigSep_sep', around bm (fun c d => (dutyTok ER (barCell c) 0 d : sProp 𝕄)),
    around (fun y : Msg => bm (dir y)) (fun c y => (dutyTok ER (rcvCell c y) 0 0 : sProp 𝕄))]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give (K : Dev nD × Cx → ℕ) (c : Dev nD) : iprop(recs (xin m) K ∗ linear c) ⊢ G' m c := by
  unfold G'
  iintro H
  iexists K
  iexact H

theorem regroup :
    (bigSep Finset.univ fun c : Dev nD => iprop((bigSep Finset.univ fun k : Cx => iprop(∃ κ : ℕ, cellInv ER (Rd (xin m)) κ (cell (c, k))))
          ∗ (bigSep Finset.univ fun k : Cx => iprop(atPos ER (cell (c, k)) 0 ∅ 0 ∗ reached ER (cell (c, k)) 0)) ∗ toks c) : sProp 𝕄)
      ⊢ bigSep Finset.univ (G' m) := by
  rw [bigSep_sep', bigSep_sep', ← bigSep_univ_prod (fun a : Dev nD × Cx => iprop(∃ κ : ℕ, cellInv ER (Rd (xin m)) κ (cell a))),
    bigSep_congr (s := Finset.univ) (fun (c : Dev nD) _ => bigSep_sep' Finset.univ (fun k : Cx => (atPos ER (cell (c, k)) 0 ∅ 0 : sProp 𝕄)) (fun k => reached ER (cell (c, k)) 0)),
    bigSep_sep', ← bigSep_univ_prod (fun a : Dev nD × Cx => (reached ER (cell a) 0 : sProp 𝕄))]
  iintro ⟨HI, ⟨Hat, #HR⟩, Htok⟩
  ihave HK := (BI.bigSep_exists_pi Finset.univ (fun (a : Dev nD × Cx) (κ : ℕ) => (cellInv ER (Rd (xin m)) κ (cell a) : sProp 𝕄))) $$ HI
  icases HK with ⟨%K, #HI⟩
  ihave Htk := (toks_around (F := F)) $$ Htok
  iapply (with_persistent (R := recs (xin m) K) fun c _ => give m K c)
  isplitr
  · unfold recs; isplitl; · iexact HI
    iexact HR
  · iapply ((Entails.of_eq (bigSep_sep' Finset.univ (fun c : Dev nD => bigSep Finset.univ fun k : Cx => (atPos ER (cell (c, k)) 0 ∅ 0 : sProp 𝕄)) payToks).symm).trans
      (bigSep_mono fun c _ => show _ ⊢ linear c from BI.Entails.refl _))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_inj {a b : Dev nD} (h : barCell a = barCell b) : a = b := congrArg (fun g : GSem nD τ sig => g.1.1) h
theorem rcv_inj {a b : Dev nD} {y z : Msg} (h : rcvCell a y = rcvCell b z) : a = b ∧ y = z := by
  have h' := Prod.mk.inj (cell_inj (a₁ := (a, some (true, y))) (a₂ := (b, some (true, z))) h)
  exact ⟨h'.1, (Prod.mk.inj (Option.some_injective _ h'.2)).2⟩
theorem rcv_ne_bar {a b : Dev nD} {y : Msg} : rcvCell a y ≠ barCell b := fun h => by
  have h' := (Prod.mk.inj (cell_inj (a₁ := (a, some (true, y))) (a₂ := (b, none)) h)).2
  cases h'

theorem owesL_bar (d c : Dev nD) (l : List Msg) : owesL d l (barCell c) () = 0 := by
  by_contra h
  obtain ⟨y, _, e⟩ := owesL_pos (Nat.pos_of_ne_zero h)
  exact rcv_ne_bar e.symm

theorem owesL_rcv (d c : Dev nD) (y : Msg) (l : List Msg) (hl : l.Nodup) :
    owesL d l (rcvCell c y) () = if y ∈ l ∧ d = peer y c then amt y else 0 := by
  induction l with
  | nil => rw [if_neg (fun h => by cases h.1)]; rfl
  | cons z l ih =>
    have hl' := List.nodup_cons.mp hl
    show owesL d l (rcvCell c y) () + tallyAt (rcvCell (peer z d) z) () (amt z) (rcvCell c y) () = _
    rw [ih hl'.2, tallyAt_apply]
    by_cases hz : y = z
    · subst hz
      rw [if_neg (fun h => hl'.1 h.1), Nat.zero_add]
      by_cases hd : d = peer y c
      · subst hd; rw [if_pos ⟨by rw [peer_peer], rfl⟩, if_pos ⟨List.mem_cons_self, rfl⟩]
      · rw [if_neg (fun h => hd (by rw [(rcv_inj h.1).1, peer_peer])), if_neg (fun h => hd h.2)]
    · rw [if_neg (c := rcvCell c y = _ ∧ _) (fun h => hz (rcv_inj h.1).2), Nat.add_zero]
      by_cases hy : y ∈ l ∧ d = peer y c
      · rw [if_pos hy, if_pos ⟨List.mem_cons_of_mem _ hy.1, hy.2⟩]
      · rw [if_neg hy, if_neg (fun h => hy ⟨(List.mem_cons.mp h.1).resolve_left hz, h.2⟩)]

theorem ord_nodup : ord.Nodup := by decide
theorem ord_all (y : Msg) : y ∈ ord := by revert y; decide

theorem owed_rcv (d c : Dev nD) (y : Msg) : O₀ d (rcvCell c y) () = if d = peer y c then amt y else 0 := by
  have hn : ∀ e : Dev nD, ¬(rcvCell c y = barCell e ∧ () = ()) := fun e h => rcv_ne_bar h.1
  show owesL d ord (rcvCell c y) () + tallyAt (barCell (nb 4 d)) () 1 (rcvCell c y) () + tallyAt (barCell (nb 3 d)) () 1 (rcvCell c y) () + tallyAt (barCell (nb 1 d)) () 1 (rcvCell c y) () = _
  rw [tallyAt_apply, tallyAt_apply, tallyAt_apply, if_neg (hn _), if_neg (hn _), if_neg (hn _), owesL_rcv d c y ord ord_nodup]
  simp [ord_all y]

theorem owed_nb (k : Fin 8) (d c : Dev nD) : (tallyAt (barCell (nb k d)) () 1 : CellTallies nD τ sig Unit) (barCell c) () = if d = nb k c then 1 else 0 := by
  rw [tallyAt_apply]
  by_cases h : d = nb k c
  · subst h; rw [if_pos rfl, if_pos ⟨by rw [nb_nb], rfl⟩]
  · rw [if_neg h, if_neg (fun e => h (by rw [bar_inj e.1, nb_nb]))]
theorem owed_bar (d c : Dev nD) : O₀ d (barCell c) () = (if d = nb 4 c then 1 else 0) + (if d = nb 3 c then 1 else 0) + (if d = nb 1 c then 1 else 0) := by
  show owesL d ord (barCell c) () + tallyAt (barCell (nb 4 d)) () 1 (barCell c) () + tallyAt (barCell (nb 3 d)) () 1 (barCell c) () + tallyAt (barCell (nb 1 d)) () 1 (barCell c) () = _
  rw [owesL_bar, owed_nb, owed_nb, owed_nb, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 4 c) fun _ => 1, Finset.sum_ite_eq' Finset.univ (nb 3 c) fun _ => 1, Finset.sum_ite_eq' Finset.univ (nb 1 c) fun _ => 1,
    if_pos (Finset.mem_univ _), if_pos (Finset.mem_univ _), if_pos (Finset.mem_univ _)]

theorem launch_rcv (c : Dev nD) (y : Msg) :
    tallyOn (rcvCell c y) (launchCredit (Pipeline.owing O₀) 0 (rcvCell c y)) = (tallyAt (rcvCell c y) () (amt y) : CellTallies nD τ sig Unit) := by
  unfold tallyAt; refine congrArg _ (Finsupp.ext fun u => ?_); cases u
  rw [Pipeline.launchCredit_owing, Finsupp.single_eq_same, Finset.sum_congr rfl fun d _ => owed_rcv d c y, Finset.sum_ite_eq' Finset.univ (peer y c) fun _ => amt y,
    if_pos (Finset.mem_univ _)]

/-- A message's arrival semaphore. -/
def rSem : Msg ↪ SemLoc sig := ⟨fun y => osem (true, y), fun y z h => by
  have := csem_inj (a₁ := some (true, y)) (a₂ := some (true, z)) h
  exact (Prod.mk.inj (Option.some_injective _ this)).2⟩

theorem creds (c : Dev nD) :
    (Pipeline.launchCred O₀ c : sProp 𝕄) ⊢ iprop(cred (tallyAt (barCell c) () 3) ∗ bigSep Finset.univ fun y : Msg => cred (tallyAt (rcvCell c y) () (amt y))) := by
  unfold Pipeline.launchCred
  rw [bigSep_univ_at _ (SemLoc.reg barS), launch_bar]
  refine sep_mono_right ?_
  have hs : (Finset.univ : Finset Msg).map rSem ⊆ Finset.univ.erase (SemLoc.reg barS) := fun s hs => by
    obtain ⟨y, _, rfl⟩ := Finset.mem_map.mp hs
    exact Finset.mem_erase.mpr ⟨fun h => rcv_ne_bar (a := c) (b := c) (y := y) (congrArg (Prod.mk _) h), Finset.mem_univ _⟩
  rw [show (bigSep Finset.univ fun y : Msg => (cred (tallyAt (rcvCell c y) () (amt y)) : sProp 𝕄))
      = bigSep ((Finset.univ : Finset Msg).map rSem) fun s => cred (tallyOn ((c : Thread nD τ), s) (launchCredit (Pipeline.owing O₀) 0 ((c : Thread nD τ), s))) from by
    rw [bigSep_map]
    exact bigSep_congr fun y _ => congrArg cred (launch_rcv c y).symm]
  exact bigSep_subset hs

/-! ## The side conditions -/

theorem tokens_intro (c : Dev nD) : iprop(linear c ∗ cred (tallyAt (barCell c) () 3) ∗ bigSep Finset.univ fun y : Msg => cred (tallyAt (rcvCell c y) () (amt y))) ⊢ (tokens c : sProp 𝕄) := by
  unfold linear payToks tokens pre
  rw [by_cx, by_dirs (fun d : Fin 3 => (dutyTok ER (barCell (nb (bm d) c)) 0 d : sProp 𝕄)),
    bigSep_sep', bigSep_sep', bigSep_sep', bigSep_sep']
  iintro ⟨⟨⟨HaB, HaS, HaR⟩, ⟨HtB, HtS, HtR⟩⟩, HcB, HcR⟩
  isplitl [HaB HcB HtB]
  · isplitl [HaB]; · iexact HaB
    isplitl [HcB]; · iexact HcB
    iexact HtB
  isplitl [HaS]; · iexact HaS
  isplitl [HaR]; · iexact HaR
  isplitl [HcR]; · iexact HcR
  isplitl [HtS]; · iexact HtS
  iexact HtR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, #HR, HG⟩⟩
  ihave Hc := (creds (F := F) c) $$ Hcr
  ihave HT := (tokens_intro (F := F) c) $$ [HG Hc]
  · isplitl [HG] <;> iassumption
  imodintro
  unfold start
  isplitl
  · isplitr
    · iexists K; iexact HR
    isplitl [Hlev]; · iexact Hlev
    iexact HT
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scrs c) from rfl]
  iintro ⟨Hs, -, Hr⟩
  isplitl [Hs]; · iexact Hs
  iapply (scrs_eq c)
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scrs c ∗ zeros c) from rfl, ownSems0_eq, unscopedSems0_eq]
  unfold zeros
  iintro ⟨Hr, HB, HM⟩
  isplitl [HB]; · iexact HB
  isplitl [HM]; · iexact HM
  iapply (scrs_back c)
  iexact Hr

theorem waits_ok (c : Dev nD) : (levAts L lv : sProp 𝕄) ⊢ Pipeline.cellsWaits cfgs (dats m ρ) () 0 c :=
  Pipeline.cellsWaits_intro cfgs (dats m ρ) () 0 c fun w s t =>
    mayWait_stage c _ (stage_kd w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- A device's array after the run. -/
def finalA (c : Dev nD) (w : Fin cfg0.W) : Buf (Elt F) ((cfg0.win w).arr.view.loc (c : Thread nD τ)) := (dats m ρ 0 c).arrAt w cfg0.N

set_option maxRecDepth 100000 in
/-- Every fair execution ends, each device's arrays at the computed contents and every semaphore at zero. -/
theorem run_main : θ_run defs (onTc (τ := τ) (main (F := F))) (st0 m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) := (dats (F := F) m ρ 0 c).arrAt_in (0 : Fin 3) rfl _
theorem finalA_g (c : Dev nD) : finalA m ρ c (1 : Fin 3) = m ((c : Thread nD τ).loc main_arg1) := (dats (F := F) m ρ 0 c).arrAt_in (1 : Fin 3) rfl _

end Cert.KProof
end
-- ==== Proof.Value.lean ====
/-
  What the run computes over the reals: `normed` is one entry of a normalised row, `refOut` the reference's term, and
  `result` says that a device's result array is its block of that term.
-/
module

public import proofs.«01_k».proof.Proof.Launch
public import proofs.«01_k».proof.Proof.Gen.ReferenceIdeal
public import proofs.«01_k».proof.Proof.Gen.ReferenceIdeal.Run
public import Idealize.ShloMosaic.Lib.Pointwise
public import Idealize.ShloMosaic.Lib.Layout

@[expose] public section

noncomputable section

namespace Cert.KProof

open Idealize.ShloMosaic

/-- One entry of the normalised row `Y`, scaled by `γ`. -/
def normed (Y : Fin 512 → EReal) (γ : EReal) (l : Fin 512) : EReal :=
  Ideal.div (Y l) (Ideal.sqrt (Ideal.div (∑ k : Fin 512, Y k * Y k) (Ideal.ofBits .f32 0x44000000#32) + Ideal.ofBits .f32 0x358637BD#32)) * γ

section
open Cert.ReferenceIdeal Cert.ReferenceIdeal.Gen

/-! ## The reference -/

/-- The reference's result, from its arguments. -/
def refOut (X : FVec Ideal S8x4096x512 .bf16) (g : FVec Ideal S512 .bf16) : FVec Ideal S4096x512 .f32 :=
  let S : FVec Ideal S4096x512 .f32 := Host.reduceAdd (extf .f32 X bitsLt_bf16_f32) (constant S_ .f32 0x00000000#32) reducesTo_S8x4096x512_S4096x512_d0 h_S_
  mulf (Host.divf S (broadcastInDim S4096x512 ![0, 1] bcast_S4096x1_S4096x512_0_1 (Host.sqrt (addf (Host.divf (broadcastInDim S4096x1 ![0] bcast_S4096_S4096x1_0
    (Host.reduceAdd (mulf S S) (constant S_ .f32 0x00000000#32) reducesTo_S4096x512_S4096_d1 h_S_)) (broadcastInDim S4096x1 ![] bcast_S_S4096x1 (constant S_ .f32 0x44000000#32)))
    (broadcastInDim S4096x1 ![] bcast_S_S4096x1 (constant S_ .f32 0x358637BD#32))))))
    (broadcastInDim S4096x512 ![0, 1] bcast_S1x512_S4096x512_0_1 (broadcastInDim S1x512 ![1] bcast_S512_S1x512_1 (extf .f32 g bitsLt_bf16_f32)))

theorem refOut_apply (X : FVec Ideal S8x4096x512 .bf16) (g : FVec Ideal S512 .bf16) (r : Fin 4096) (l : Fin 512) :
    refOut X g (Idealize.ShloMosaic.ix2 r l) = normed (fun k => ∑ q : Fin 8, (X (ix3 q r k) : EReal)) (g (ix1 l)) l := by
  unfold normed refOut
  pointwise

end

open Cert.KernelIdeal Cert.KernelIdeal.Gen
open Idealize.ShloMosaic.TcCoe

/-! ## The run's result -/

/-- The eight devices in the order part `k`'s exchange adds their rows up on device `c`. -/
def order (k : Fin 3) (c : Dev nD) : Fin 8 → Dev nD :=
  ![nbS k 0 c, c, nbS k 0 (nbS k 1 c), nbS k 1 c, nbS k 0 (nbS k 2 c), nbS k 2 c, nbS k 0 (nbS k 1 (nbS k 2 c)), nbS k 1 (nbS k 2 c)]

/-- Every device is met once. -/
theorem order_bij : ∀ (k : Fin 3) (c : Dev nD), Function.Injective (order k c) := by decide

/-- The stripes the rows are about are all `c`'s own. -/
theorem stripes : ∀ (k : Fin 3) (c : Dev nD), nb (spn k 0) c = c ∧ nb (spn k 2) (nbS k 1 c) = c ∧ nb (spn k 1) (nbS k 2 c) = c
    ∧ nb (spn k 3) (nbS k 1 (nbS k 2 c)) = c ∧ nbS k 0 (nbS k 0 c) = c := by decide

/-- The part's two last rows add up to the sum over the eight devices of their rows of stripe `c`. -/
theorem total (x : Dev nD → XT Ideal) (k : Fin 3) (c : Dev nD) (i : (P3 (part k).h 512).Idx) :
    ((A2 x k c 0 i : EReal) + (R3C x k c i : EReal) : EReal) = ∑ q : Dev nD, (rows (x q) k c i : EReal) := by
  obtain ⟨h0, h1, h2, h3, -⟩ := stripes k c
  have h4 := fun c => (stripes k c).2.2.2.2
  have e : (∑ q : Dev nD, (rows (x q) k c i : EReal)) = ∑ n : Fin 8, (rows (x (order k c n)) k c i : EReal) :=
    ((Finite.injective_iff_bijective.mp (order_bij k c)).sum_comp fun q => (rows (x q) k c i : EReal)).symm
  rw [e, Fin.sum_univ_eight]
  unfold R3C A2 R2C A1 R1C S1C XKC vadd
  simp only [Ideal.addf_def, h4]
  show (((rows (x (nbS k 0 c)) k (nb (spn k 0) c) i : EReal) + rows (x c) k (nb (spn k 0) c) i)
    + (rows (x (nbS k 0 (nbS k 1 c))) k (nb (spn k 2) (nbS k 1 c)) i + rows (x (nbS k 1 c)) k (nb (spn k 2) (nbS k 1 c)) i))
    + ((rows (x (nbS k 0 (nbS k 2 c))) k (nb (spn k 1) (nbS k 2 c)) i + rows (x (nbS k 2 c)) k (nb (spn k 1) (nbS k 2 c)) i)
    + (rows (x (nbS k 0 (nbS k 1 (nbS k 2 c)))) k (nb (spn k 3) (nbS k 1 (nbS k 2 c))) i + rows (x (nbS k 1 (nbS k 2 c))) k (nb (spn k 3) (nbS k 1 (nbS k 2 c))) i))
    = _
  rw [h0, h1, h2, h3]
  simp only [add_assoc]
  rfl

/-- A row without its unit axis, by coordinates; -/
theorem toMat_eq {h : ℕ} (v : Vec Ideal (P3 h 512) .bf16) : toMat v = fun j => v (ix3 0 (j 0) (j 1)) :=
  funext fun j => shapeCast_apply v _ j (ix3 0 (j 0) (j 1)) (by
    rw [Shape.rowMajor_val_three, Shape.rowMajor_val_two]
    show (0 * h + (j 0).val) * 512 + (j 1).val = (j 0).val * 512 + (j 1).val
    rw [Nat.zero_mul, Nat.zero_add])
/-- a vector as one column, -/
theorem column_eq {h : ℕ} (v : FVec Ideal ⟨1, ![h]⟩ .f32) (hc : (⟨1, ![h]⟩ : Shape).ShapeCasts ⟨2, ![h, 1]⟩) :
    shapeCast ⟨2, ![h, 1]⟩ v hc = fun j => v (ix1 (j 0)) :=
  funext fun j => shapeCast_apply v _ j (ix1 (j 0)) (by
    have h1 : (j 1).val < 1 := (j 1).isLt
    rw [Shape.rowMajor_val_two, Shape.rowMajor_val_one]
    show (j 0).val = (j 0).val * 1 + (j 1).val
    omega)
/-- and one column along the rows. -/
theorem along_eq {h : ℕ} (v : FVec Ideal ⟨2, ![h, 1]⟩ .f32) (hb : (⟨2, ![h, 1]⟩ : Shape).Broadcasts (P2 h 512)) :
    broadcastTo (P2 h 512) v hb = fun j => v (Idealize.ShloMosaic.ix2 (j 0) 0) :=
  funext fun j => broadcastTo_apply v hb j (Idealize.ShloMosaic.ix2 (j 0) 0) fun a => by
    have h0 : (j 0).val < h := (j 0).isLt
    match a with
    | ⟨0, _⟩ =>
      show (j 0).val = if h = 1 then 0 else (j 0).val
      split <;> omega
    | ⟨1, _⟩ => rfl

/-- A part's rows of the result, entry by entry. -/
theorem outRows_apply (P : Part) (a b : Vec Ideal (P3 P.h 512) .bf16) (g : Vec Ideal S512 .bf16) (r : Fin P.h) (l : Fin 512) :
    outRows P a b g (Idealize.ShloMosaic.ix2 r l) = normed (fun k => (a (ix3 0 r k) : EReal) + (b (ix3 0 r k) : EReal)) (g (ix1 l)) l := by
  unfold normed outRows
  rw [toMat_eq a, toMat_eq b, along_eq, column_eq]
  pointwise

/-- An entry of part `k`'s rows of device `c`'s result is the reference's at the row it stands for. -/
theorem outR_ref (x : Dev nD → XT Ideal) (X : FVec Ideal Cert.ReferenceIdeal.S8x4096x512 .bf16) (g : GT Ideal)
    (hx : ∀ (q : Fin 8) (R : Fin 4096) (n : Fin 512), x q (ix3 (0 : Fin 1) R n) = X (ix3 q R n))
    (k : Fin 3) (c : Dev nD) (r : Fin (part k).h) (l : Fin 512) (R : Fin 4096) (hR : R.val = 512 * c.val + off k + r.val) :
    outR x k c g (ix2 r l) = refOut X g (Idealize.ShloMosaic.ix2 R l) := by
  rw [refOut_apply]
  refine (outRows_apply (part k) _ _ g r l).trans (congrArg (fun Y => normed Y (g (ix1 l)) l) (funext fun n => ?_))
  refine (total x k c _).trans (Finset.sum_congr rfl fun q _ => ?_)
  rw [← hx q R n]
  unfold rows
  congr 1
  funext a
  apply Fin.ext
  rw [Rect.emb_apply]
  match a with
  | ⟨0, _⟩ => rfl
  | ⟨1, _⟩ =>
    show 512 * c.val + off k + 1 * r.val = R.val
    omega
  | ⟨2, _⟩ =>
    show 0 + 1 * n.val = n.val
    omega

/-- Device `c`'s result is block `c` of the reference's. -/
theorem outV_ref (x : Dev nD → XT Ideal) (X : FVec Ideal Cert.ReferenceIdeal.S8x4096x512 .bf16) (g : GT Ideal)
    (hx : ∀ (q : Fin 8) (R : Fin 4096) (n : Fin 512), x q (ix3 (0 : Fin 1) R n) = X (ix3 q R n)) (c : Dev nD) :
    outV x c g = Layout.block ⟨2, ![512, 512]⟩ ⟨2, ![4096, 512]⟩ 0 8 c (refOut X g) := by
  funext i
  have hi : (i 0).val < 512 := (i 0).isLt
  have hc : c.val < 8 := c.isLt
  rw [Layout.block_apply]
  generalize hT : Layout.Tiles.idx _ c i = T
  have e0 : (T 0).val = c.val * 512 + (i 0).val := by rw [← hT, Layout.Tiles.idx_val]; rfl
  have e1 : (T 1).val = (i 1).val := by rw [← hT, Layout.Tiles.idx_val]; rfl
  have eT : T = Idealize.ShloMosaic.ix2 (T 0) (i 1) := by
    funext a
    match a with
    | ⟨0, _⟩ => rfl
    | ⟨1, _⟩ => exact Fin.ext e1
  rw [eT]
  refine (outF_apply x c g _ i hi).trans ?_
  split
  · next a₂ => exact outR_ref x X g hx 2 c ⟨(i 0).val - 352, _⟩ (i 1) (T 0) (by show (T 0).val = 512 * c.val + 352 + ((i 0).val - 352); omega)
  · split
    · next a₂ a₁ => exact outR_ref x X g hx 1 c ⟨(i 0).val - 176, _⟩ (i 1) (T 0) (by show (T 0).val = 512 * c.val + 176 + ((i 0).val - 176); omega)
    · next a₂ a₁ => exact outR_ref x X g hx 0 c ⟨(i 0).val, _⟩ (i 1) (T 0) (by show (T 0).val = 512 * c.val + 0 + (i 0).val; omega)

/-! ## The arrays, read -/

section Arrays
variable {F : FTy → Type} [FloatOps F] (m : (ℓ : Loc nD τ sig) → Buf (Elt F) ℓ) (ρ : Dev nD → PrngReg)

/-- A device's staged input is its first argument; -/
theorem xin_eq (c : Dev nD) : xin m c = m ((c : Thread nD τ).loc main_arg0) :=
  Memref.read_access_unit_zero (Elt F) main_arg0 (funext fun a => by fin_cases a <;> decide) (fun a => by fin_cases a <;> decide) _
/-- its staged scale is the second, -/
theorem gin_eq (c : Dev nD) : gin m c = m ((c : Thread nD τ).loc main_arg1) :=
  Memref.read_access_unit_zero (Elt F) main_arg1 (funext fun a => by fin_cases a; decide) (fun a => by fin_cases a; decide) _
/-- and its result array ends at what the body leaves. -/
theorem finalA_o (c : Dev nD) : finalA m ρ c (2 : Fin 3) = outAt m c := by
  have h : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from rfl, if_pos rfl]
    exact View.read_write_univ _ _
  exact (Memref.read_access_unit_zero (Elt F) main_v1 (funext fun a => by fin_cases a <;> decide) (fun a => by fin_cases a <;> decide) _).symm.trans h
end Arrays

/-- From arguments that are the blocks of the reference's, each device's result is its block of the reference's. -/
theorem result (m : (ℓ : Loc nD τ sig) → Buf (Elt Ideal) ℓ) (ρ : Dev nD → PrngReg) (X : FVec Ideal Cert.ReferenceIdeal.S8x4096x512 .bf16)
    (g : FVec Ideal Cert.ReferenceIdeal.S512 .bf16)
    (hX : ∀ q : Dev nD, m ((q : Thread nD τ).loc main_arg0) = Layout.block ⟨3, ![1, 4096, 512]⟩ ⟨3, ![8, 4096, 512]⟩ 0 8 q X)
    (hg : ∀ q : Dev nD, m ((q : Thread nD τ).loc main_arg1) = g) (c : Dev nD) :
    finalA m ρ c (2 : Fin 3) = Layout.block ⟨2, ![512, 512]⟩ ⟨2, ![4096, 512]⟩ 0 8 c (refOut X g) := by
  rw [finalA_o]
  unfold outAt
  rw [gin_eq, hg c]
  refine outV_ref (xin m) X g (fun q R n => ?_) c
  rw [xin_eq, hX q]
  refine congrArg X (funext fun a => Fin.ext ?_)
  rw [Layout.Tiles.idx_val]
  match a with
  | ⟨0, _⟩ =>
    show q.val * 1 + 0 = q.val
    omega
  | ⟨1, _⟩ => rfl
  | ⟨2, _⟩ => rfl

end Cert.KProof

end
-- ==== Proof.lean ====
/-
The claims: the kernel and its reading over the reals run to the end with every semaphore at zero and their arguments
unchanged, so does the reference, and over the reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel's run, over any float values. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KProof.finalA_x m ρ c), (h.1 c (1 : Fin 3)).trans (Cert.KProof.finalA_g m ρ c)⟩, h.2⟩)
    (Cert.KProof.run_main m ρ)

theorem frame_ideal : Cert.quiescent_KernelIdeal := fun m ρ _ => frame_any m ρ

section
variable {F : FTy → Type} [FloatOps F]

set_option maxRecDepth 20000 in
/-- The kernel function's printed text is the same for both. -/
theorem body_same : @Cert.Kernel.cc0_body F _ Cert.Kernel.Gen.facts = @Cert.KernelIdeal.cc0_body F _ Cert.KernelIdeal.Gen.facts := rfl

set_option maxRecDepth 20000 in
/-- So are the body tables. -/
theorem table_same : @Cert.Kernel.defs₀ F _ Cert.Kernel.Gen.facts = @Cert.KernelIdeal.defs₀ F _ Cert.KernelIdeal.Gen.facts := by
  funext p l a
  cases p with
  | tc =>
    match l, a with
    | ⟨0, _⟩, (t, s) => rfl
    | ⟨n + 1, h⟩, _ => exact absurd h (Nat.not_lt.2 (Nat.le_add_left _ _))
  | scScalar _ => rfl
  | scVector _ _ => rfl

theorem defs_same : @Cert.Kernel.defs F _ Cert.Kernel.Gen.facts = @Cert.KernelIdeal.defs F _ Cert.KernelIdeal.Gen.facts :=
  congrArg (Pipeline.defs (@Cert.Kernel.pcfgs F Cert.Kernel.Gen.facts)) table_same

end

theorem frame_kernel : Cert.quiescent_Kernel := fun m ρ _ => by
  have h := frame_any (F := Bits) m ρ
  rw [← defs_same] at h
  exact h

theorem frame_ref : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-- Over the reals each device's result is its block of the reference's. -/
theorem same_value : Cert.algebraic_KernelIdeal_ReferenceIdeal := fun m ρ m' ρ' _ hag =>
  ⟨Cert.KProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans (Cert.KProof.result m ρ _ _ (fun q => (hag q).1) (fun q => (hag q).2) c),
        (h.1 c (0 : Fin 3)).trans (Cert.KProof.finalA_x m ρ c), (h.1 c (1 : Fin 3)).trans (Cert.KProof.finalA_g m ρ c)⟩)
      (Cert.KProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_ref, trivial, same_value⟩

end Cert.Proof

end
